-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S64x4096 : Shape := ⟨2, ![64, 4096]⟩
abbrev S2x512x4096 : Shape := ⟨3, ![2, 512, 4096]⟩
abbrev S2x4096x512 : Shape := ⟨3, ![2, 4096, 512]⟩
abbrev S3x4x64x512 : Shape := ⟨4, ![3, 4, 64, 512]⟩
abbrev S3x4x3x64x512 : Shape := ⟨5, ![3, 4, 3, 64, 512]⟩
abbrev S2 : Shape := ⟨1, ![2]⟩
abbrev S3x4x3 : Shape := ⟨3, ![3, 4, 3]⟩
abbrev S_ : Shape := ⟨0, ![]⟩
abbrev S1 : Shape := ⟨1, ![1]⟩
abbrev S1x512x4096 : Shape := ⟨3, ![1, 512, 4096]⟩
abbrev S512x4096 : Shape := ⟨2, ![512, 4096]⟩
abbrev S64x512 : Shape := ⟨2, ![64, 512]⟩
abbrev S1x4096x512 : Shape := ⟨3, ![1, 4096, 512]⟩
abbrev S4096x512 : Shape := ⟨2, ![4096, 512]⟩
abbrev S1x1x64x512 : Shape := ⟨4, ![1, 1, 64, 512]⟩
abbrev S1x1x1 : Shape := ⟨3, ![1, 1, 1]⟩
abbrev S1x1x1x64x512 : Shape := ⟨5, ![1, 1, 1, 64, 512]⟩

abbrev nBuf : Space → Nat
  | .hbm => 8
  | .vmem => 7
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S64x2048, .f32⟩
  | .local _ .vmem, ⟨0, _⟩ => ⟨S64x2048, .f32⟩
  | .local _ .vmem, ⟨1, _⟩ => ⟨S64x2048, .f32⟩
  | .local _ .vmem, ⟨2, _⟩ => ⟨S64x4096, .f32⟩
  | .local _ .vmem, ⟨3, _⟩ => ⟨S2x512x4096, .f32⟩
  | .local _ .vmem, ⟨4, _⟩ => ⟨S2x4096x512, .f32⟩
  | .local _ .vmem, ⟨5, _⟩ => ⟨S3x4x64x512, .f32⟩
  | .local _ .vmem, ⟨6, _⟩ => ⟨S3x4x3x64x512, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 1 78 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_131 : BitVec 32 := 1#32
  let v119 : BitVec 32 := Scalar.muli v3 c1_i32_131
  let v120 : BitVec 32 := Scalar.addi c0_i32_132 v119
  v120.toNat
def k0_dev5 (d0 : Dev nD) : Nat :=
  let c0_i32_149 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_148 : BitVec 32 := 1#32
  let v129 : BitVec 32 := Scalar.muli v4 c1_i32_148
  let v130 : BitVec 32 := Scalar.addi c0_i32_149 v129
  v130.toNat
def k0_dev6 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_165 : BitVec 32 := 1#32
  let v139 : BitVec 32 := Scalar.muli v5 c1_i32_165
  let v140 : BitVec 32 := Scalar.addi c0_i32_166 v139
  v140.toNat
def k0_dev7 (d0 : Dev nD) : Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_204 : BitVec 32 := 1#32
  let v166 : BitVec 32 := Scalar.muli v3 c1_i32_204
  let v167 : BitVec 32 := Scalar.addi c0_i32_205 v166
  v167.toNat
def k0_dev8 (d0 : Dev nD) : Nat :=
  let c0_i32_222 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_221 : BitVec 32 := 1#32
  let v176 : BitVec 32 := Scalar.muli v4 c1_i32_221
  let v177 : BitVec 32 := Scalar.addi c0_i32_222 v176
  v177.toNat
def k0_dev9 (d0 : Dev nD) : Nat :=
  let c0_i32_239 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_238 : BitVec 32 := 1#32
  let v186 : BitVec 32 := Scalar.muli v5 c1_i32_238
  let v187 : BitVec 32 := Scalar.addi c0_i32_239 v186
  v187.toNat
def k0_dev10 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_276 : BitVec 32 := 1#32
  let v213 : BitVec 32 := Scalar.muli v3 c1_i32_276
  let v214 : BitVec 32 := Scalar.addi c0_i32_277 v213
  v214.toNat
def k0_dev11 (d0 : Dev nD) : Nat :=
  let c0_i32_294 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_293 : BitVec 32 := 1#32
  let v223 : BitVec 32 := Scalar.muli v4 c1_i32_293
  let v224 : BitVec 32 := Scalar.addi c0_i32_294 v223
  v224.toNat
def k0_dev12 (d0 : Dev nD) : Nat :=
  let c0_i32_311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_310 : BitVec 32 := 1#32
  let v233 : BitVec 32 := Scalar.muli v5 c1_i32_310
  let v234 : BitVec 32 := Scalar.addi c0_i32_311 v233
  v234.toNat
def k0_dev13 (d0 : Dev nD) : Nat :=
  let c0_i32_349 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_348 : BitVec 32 := 1#32
  let v260 : BitVec 32 := Scalar.muli v3 c1_i32_348
  let v261 : BitVec 32 := Scalar.addi c0_i32_349 v260
  v261.toNat
def k0_dev14 (d0 : Dev nD) : Nat :=
  let c0_i32_366 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_365 : BitVec 32 := 1#32
  let v270 : BitVec 32 := Scalar.muli v4 c1_i32_365
  let v271 : BitVec 32 := Scalar.addi c0_i32_366 v270
  v271.toNat
def k0_dev15 (d0 : Dev nD) : Nat :=
  let c0_i32_383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_382 : BitVec 32 := 1#32
  let v280 : BitVec 32 := Scalar.muli v5 c1_i32_382
  let v281 : BitVec 32 := Scalar.addi c0_i32_383 v280
  v281.toNat
def k0_dev16 (d0 : Dev nD) : Nat :=
  let c0_i32_785 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_784 : BitVec 32 := 1#32
  let v523 : BitVec 32 := Scalar.muli v3 c1_i32_784
  let v524 : BitVec 32 := Scalar.addi c0_i32_785 v523
  v524.toNat
def k0_dev17 (d0 : Dev nD) : Nat :=
  let c0_i32_802 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_801 : BitVec 32 := 1#32
  let v533 : BitVec 32 := Scalar.muli v4 c1_i32_801
  let v534 : BitVec 32 := Scalar.addi c0_i32_802 v533
  v534.toNat
def k0_dev18 (d0 : Dev nD) : Nat :=
  let c0_i32_819 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_818 : BitVec 32 := 1#32
  let v543 : BitVec 32 := Scalar.muli v5 c1_i32_818
  let v544 : BitVec 32 := Scalar.addi c0_i32_819 v543
  v544.toNat
def k0_dev19 (d0 : Dev nD) : Nat :=
  let c0_i32_858 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_857 : BitVec 32 := 1#32
  let v570 : BitVec 32 := Scalar.muli v3 c1_i32_857
  let v571 : BitVec 32 := Scalar.addi c0_i32_858 v570
  v571.toNat
def k0_dev20 (d0 : Dev nD) : Nat :=
  let c0_i32_875 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_874 : BitVec 32 := 1#32
  let v580 : BitVec 32 := Scalar.muli v4 c1_i32_874
  let v581 : BitVec 32 := Scalar.addi c0_i32_875 v580
  v581.toNat
def k0_dev21 (d0 : Dev nD) : Nat :=
  let c0_i32_892 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_891 : BitVec 32 := 1#32
  let v590 : BitVec 32 := Scalar.muli v5 c1_i32_891
  let v591 : BitVec 32 := Scalar.addi c0_i32_892 v590
  v591.toNat
def k0_dev22 (d0 : Dev nD) : Nat :=
  let c0_i32_931 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_930 : BitVec 32 := 1#32
  let v617 : BitVec 32 := Scalar.muli v3 c1_i32_930
  let v618 : BitVec 32 := Scalar.addi c0_i32_931 v617
  v618.toNat
def k0_dev23 (d0 : Dev nD) : Nat :=
  let c0_i32_948 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_947 : BitVec 32 := 1#32
  let v627 : BitVec 32 := Scalar.muli v4 c1_i32_947
  let v628 : BitVec 32 := Scalar.addi c0_i32_948 v627
  v628.toNat
def k0_dev24 (d0 : Dev nD) : Nat :=
  let c0_i32_965 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_964 : BitVec 32 := 1#32
  let v637 : BitVec 32 := Scalar.muli v5 c1_i32_964
  let v638 : BitVec 32 := Scalar.addi c0_i32_965 v637
  v638.toNat
def k0_dev25 (d0 : Dev nD) : Nat :=
  let c0_i32_1004 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1003 : BitVec 32 := 1#32
  let v664 : BitVec 32 := Scalar.muli v3 c1_i32_1003
  let v665 : BitVec 32 := Scalar.addi c0_i32_1004 v664
  v665.toNat
def k0_dev26 (d0 : Dev nD) : Nat :=
  let c0_i32_1021 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1020 : BitVec 32 := 1#32
  let v674 : BitVec 32 := Scalar.muli v4 c1_i32_1020
  let v675 : BitVec 32 := Scalar.addi c0_i32_1021 v674
  v675.toNat
def k0_dev27 (d0 : Dev nD) : Nat :=
  let c0_i32_1038 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_1037 : BitVec 32 := 1#32
  let v684 : BitVec 32 := Scalar.muli v5 c1_i32_1037
  let v685 : BitVec 32 := Scalar.addi c0_i32_1038 v684
  v685.toNat
def k0_dev28 (d0 : Dev nD) : Nat :=
  let c0_i32_1440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1439 : BitVec 32 := 1#32
  let v927 : BitVec 32 := Scalar.muli v3 c1_i32_1439
  let v928 : BitVec 32 := Scalar.addi c0_i32_1440 v927
  v928.toNat
def k0_dev29 (d0 : Dev nD) : Nat :=
  let c0_i32_1457 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1456 : BitVec 32 := 1#32
  let v937 : BitVec 32 := Scalar.muli v4 c1_i32_1456
  let v938 : BitVec 32 := Scalar.addi c0_i32_1457 v937
  v938.toNat
def k0_dev30 (d0 : Dev nD) : Nat :=
  let c0_i32_1474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_1473 : BitVec 32 := 1#32
  let v947 : BitVec 32 := Scalar.muli v5 c1_i32_1473
  let v948 : BitVec 32 := Scalar.addi c0_i32_1474 v947
  v948.toNat
def k0_dev31 (d0 : Dev nD) : Nat :=
  let c0_i32_1513 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1512 : BitVec 32 := 1#32
  let v974 : BitVec 32 := Scalar.muli v3 c1_i32_1512
  let v975 : BitVec 32 := Scalar.addi c0_i32_1513 v974
  v975.toNat
def k0_dev32 (d0 : Dev nD) : Nat :=
  let c0_i32_1530 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1529 : BitVec 32 := 1#32
  let v984 : BitVec 32 := Scalar.muli v4 c1_i32_1529
  let v985 : BitVec 32 := Scalar.addi c0_i32_1530 v984
  v985.toNat
def k0_dev33 (d0 : Dev nD) : Nat :=
  let c0_i32_1547 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_1546 : BitVec 32 := 1#32
  let v994 : BitVec 32 := Scalar.muli v5 c1_i32_1546
  let v995 : BitVec 32 := Scalar.addi c0_i32_1547 v994
  v995.toNat
def k0_dev34 (d0 : Dev nD) : Nat :=
  let c0_i32_1586 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1585 : BitVec 32 := 1#32
  let v1021 : BitVec 32 := Scalar.muli v3 c1_i32_1585
  let v1022 : BitVec 32 := Scalar.addi c0_i32_1586 v1021
  v1022.toNat
def k0_dev35 (d0 : Dev nD) : Nat :=
  let c0_i32_1603 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1602 : BitVec 32 := 1#32
  let v1031 : BitVec 32 := Scalar.muli v4 c1_i32_1602
  let v1032 : BitVec 32 := Scalar.addi c0_i32_1603 v1031
  v1032.toNat
def k0_dev36 (d0 : Dev nD) : Nat :=
  let c0_i32_1620 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_1619 : BitVec 32 := 1#32
  let v1041 : BitVec 32 := Scalar.muli v5 c1_i32_1619
  let v1042 : BitVec 32 := Scalar.addi c0_i32_1620 v1041
  v1042.toNat
def k0_dev37 (d0 : Dev nD) : Nat :=
  let c0_i32_1653 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1652 : BitVec 32 := 1#32
  let v1063 : BitVec 32 := Scalar.muli v3 c1_i32_1652
  let v1064 : BitVec 32 := Scalar.addi c0_i32_1653 v1063
  v1064.toNat
def k0_dev38 (d0 : Dev nD) : Nat :=
  let c0_i32_1670 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1669 : BitVec 32 := 1#32
  let v1073 : BitVec 32 := Scalar.muli v4 c1_i32_1669
  let v1074 : BitVec 32 := Scalar.addi c0_i32_1670 v1073
  v1074.toNat
def k0_dev39 (d0 : Dev nD) : Nat :=
  let c0_i32_1687 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  let c1_i32_1686 : BitVec 32 := 1#32
  let v1083 : BitVec 32 := Scalar.muli v5 c1_i32_1686
  let v1084 : BitVec 32 := Scalar.addi c0_i32_1687 v1083
  v1084.toNat
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x2048 : Shape := ⟨2, ![64, 2048]⟩
abbrev S2048x16384 : Shape := ⟨2, ![2048, 16384]⟩
abbrev S16384x2048 : Shape := ⟨2, ![16384, 2048]⟩
abbrev S64x16384 : Shape := ⟨2, ![64, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048x16384, .f32⟩
  | .hbm, ⟨2, _⟩ => ⟨S2048x16384, .f32⟩
  | .hbm, ⟨3, _⟩ => ⟨S2048x16384, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S64x16384, .f32⟩
  | .hbm, ⟨8, _⟩ => ⟨S_, .f32⟩
  | .hbm, ⟨9, _⟩ => ⟨S64x16384, .f32⟩
  | .hbm, ⟨10, _⟩ => ⟨S64x16384, .f32⟩
  | .hbm, ⟨11, _⟩ => ⟨S64x2048, .f32⟩
  | .hbm, ⟨12, _⟩ => ⟨S64x16384, .f32⟩
  | .hbm, ⟨13, _⟩ => ⟨S_, .f32⟩
  | .hbm, ⟨14, _⟩ => ⟨S64x16384, .f32⟩
  | .hbm, ⟨15, _⟩ => ⟨S64x16384, .f32⟩
  | .hbm, ⟨16, _⟩ => ⟨S64x2048, .f32⟩
  | .hbm, ⟨17, _⟩ => ⟨S64x16384, .f32⟩
  | .hbm, ⟨18, _⟩ => ⟨S_, .f32⟩
  | .hbm, ⟨19, _⟩ => ⟨S64x16384, .f32⟩
  | .hbm, ⟨20, _⟩ => ⟨S64x16384, .f32⟩
  | .hbm, ⟨21, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Prog.lean ====
/- The kernel's body written again over its pieces: a weight slice fetched, a chunk of the contraction,
   a rectified hidden row, a chunk of the output projection sent to the three peers, a reduced block. -/
module

public import proofs.«01_k».proof.Proof.Gen.KernelIdeal.Frame

@[expose] public section

noncomputable section

namespace Cert.KernelIdeal.Body

open Idealize.ShloMosaic Idealize.SL.Sem Cert.KernelIdeal Cert.KernelIdeal.Gen

variable {F : FTy → Type} [FloatOps F]

/-- The programs of this kernel's core. -/
abbrev KP (F : FTy → Type) [FloatOps F] := Prog (TpuEff nD τ sig (Elt F) Λ₀ .tc) PUnit

/-! ## The buffers -/

abbrev xM : Memref sig .tc .vmem S64x2048 .f32 := Memref.whole cc0_stg0_0
abbrev oM : Memref sig .tc .vmem S64x2048 .f32 := Memref.whole cc0_stg1_0
abbrev hM : Memref sig .tc .vmem S64x4096 .f32 := Memref.whole cc0_scratch0
abbrev b1M : Memref sig .tc .vmem S2x512x4096 .f32 := Memref.whole cc0_scratch1
abbrev b2M : Memref sig .tc .vmem S2x4096x512 .f32 := Memref.whole cc0_scratch2
abbrev sendM : Memref sig .tc .vmem S3x4x64x512 .f32 := Memref.whole cc0_scratch3
abbrev recvM : Memref sig .tc .vmem S3x4x3x64x512 .f32 := Memref.whole cc0_scratch4

/-- The first weight of each layer; -/
def winM : Fin 3 → Memref sig .tc .hbm S2048x4096 .f32
  | 0 => Memref.whole main_arg1
  | 1 => Memref.whole main_arg2
  | 2 => Memref.whole main_arg3
/-- and the second. -/
def woutM : Fin 3 → Memref sig .tc .hbm S4096x2048 .f32
  | 0 => Memref.whole main_arg4
  | 1 => Memref.whole main_arg5
  | 2 => Memref.whole main_arg6

/-! ## Their rectangles -/

theorem inb_x (c : Fin 4) : ∀ a, (![0, 512 * c.val] : Fin 2 → Nat) a + S64x512.size a ≤ S64x2048.size a := by
  revert c; decide
theorem inb_w1 (c : Fin 4) : ∀ a, (![512 * c.val, 0] : Fin 2 → Nat) a + S512x4096.size a ≤ S2048x4096.size a := by
  revert c; decide
theorem inb_w2 (c : Fin 4) : ∀ a, (![0, 512 * c.val] : Fin 2 → Nat) a + S4096x512.size a ≤ S4096x2048.size a := by
  revert c; decide
theorem inb_b1 (c : Fin 4) : ∀ a, (![c.val % 2, 0, 0] : Fin 3 → Nat) a + S1x512x4096.size a ≤ S2x512x4096.size a := by
  revert c; decide
theorem inb_b2 (c : Fin 4) : ∀ a, (![c.val % 2, 0, 0] : Fin 3 → Nat) a + S1x4096x512.size a ≤ S2x4096x512.size a := by
  revert c; decide
theorem inb_sem (c : Fin 4) : ∀ a, (![c.val % 2] : Fin 1 → Nat) a + S1.size a ≤ S2.size a := by
  revert c; decide
theorem inb_send (l : Fin 3) (j : Fin 4) :
    ∀ a, (![l.val, j.val, 0, 0] : Fin 4 → Nat) a + S1x1x64x512.size a ≤ S3x4x64x512.size a := by
  revert l j; decide
theorem inb_recv (l : Fin 3) (j : Fin 4) (e : Fin 3) :
    ∀ a, (![l.val, j.val, e.val, 0, 0] : Fin 5 → Nat) a + S1x1x1x64x512.size a ≤ S3x4x3x64x512.size a := by
  revert l j e; decide
theorem inb_cell (l : Fin 3) (j : Fin 4) (e : Fin 3) :
    ∀ a, (![l.val, j.val, e.val] : Fin 3 → Nat) a + S1x1x1.size a ≤ S3x4x3.size a := by
  revert l j e; decide

abbrev xR (c : Fin 4) : Rect S64x2048 := Rect.unit (s := S64x2048) ![0, 512 * c.val] S64x512.size (inb_x c)
abbrev w1R (c : Fin 4) : Rect S2048x4096 := Rect.unit (s := S2048x4096) ![512 * c.val, 0] S512x4096.size (inb_w1 c)
abbrev w2R (c : Fin 4) : Rect S4096x2048 := Rect.unit (s := S4096x2048) ![0, 512 * c.val] S4096x512.size (inb_w2 c)
abbrev b1R (c : Fin 4) : Rect S2x512x4096 := Rect.unit (s := S2x512x4096) ![c.val % 2, 0, 0] S1x512x4096.size (inb_b1 c)
abbrev b2R (c : Fin 4) : Rect S2x4096x512 := Rect.unit (s := S2x4096x512) ![c.val % 2, 0, 0] S1x4096x512.size (inb_b2 c)
abbrev sendR (l : Fin 3) (j : Fin 4) : Rect S3x4x64x512 :=
  Rect.unit (s := S3x4x64x512) ![l.val, j.val, 0, 0] S1x1x64x512.size (inb_send l j)
abbrev recvR (l : Fin 3) (j : Fin 4) (e : Fin 3) : Rect S3x4x3x64x512 :=
  Rect.unit (s := S3x4x3x64x512) ![l.val, j.val, e.val, 0, 0] S1x1x1x64x512.size (inb_recv l j e)
abbrev hR : Rect S64x4096 := Rect.unit (s := S64x4096) ![0, 0] S64x4096.size inb_S64x4096_S64x4096_0_0

/-- The slices the transfers name. -/
abbrev w1Src (l : Fin 3) (c : Fin 4) : Memref sig .tc .hbm S512x4096 .f32 := (winM l).slice (w1R c) (fun _ => rfl)
abbrev w2Src (l : Fin 3) (c : Fin 4) : Memref sig .tc .hbm S4096x512 .f32 := (woutM l).slice (w2R c) (fun _ => rfl)
abbrev b1Dst (c : Fin 4) : Memref sig .tc .vmem S512x4096 .f32 :=
  (b1M.slice (b1R c) (fun _ => rfl)).squeeze S512x4096 squeezes_S1x512x4096_S512x4096
abbrev b2Dst (c : Fin 4) : Memref sig .tc .vmem S4096x512 .f32 :=
  (b2M.slice (b2R c) (fun _ => rfl)).squeeze S4096x512 squeezes_S1x4096x512_S4096x512
abbrev sendB (l : Fin 3) (j : Fin 4) : Memref sig .tc .vmem S64x512 .f32 :=
  (sendM.slice (sendR l j) (fun _ => rfl)).squeeze S64x512 squeezes_S1x1x64x512_S64x512
abbrev recvB (l : Fin 3) (j : Fin 4) (e : Fin 3) : Memref sig .tc .vmem S64x512 .f32 :=
  (recvM.slice (recvR l j e) (fun _ => rfl)).squeeze S64x512 squeezes_S1x1x1x64x512_S64x512

/-- Their semaphores. -/
abbrev w1Sem (c : Fin 4) : DmaSems sig S_ :=
  (cc0_scratch5.slice (Rect.unit (s := S2) ![c.val % 2] S1.size (inb_sem c))).squeeze S_ squeezes_S1_S_
abbrev w2Sem (c : Fin 4) : DmaSems sig S_ :=
  (cc0_scratch6.slice (Rect.unit (s := S2) ![c.val % 2] S1.size (inb_sem c))).squeeze S_ squeezes_S1_S_
abbrev sSem (l : Fin 3) (j : Fin 4) (e : Fin 3) : DmaSems sig S_ :=
  (cc0_scratch7.slice (Rect.unit (s := S3x4x3) ![l.val, j.val, e.val] S1x1x1.size (inb_cell l j e))).squeeze S_ squeezes_S1x1x1_S_
abbrev rSem (l : Fin 3) (j : Fin 4) (e : Fin 3) : DmaSems sig S_ :=
  (cc0_scratch8.slice (Rect.unit (s := S3x4x3) ![l.val, j.val, e.val] S1x1x1.size (inb_cell l j e))).squeeze S_ squeezes_S1x1x1_S_
abbrev barS : Sems sig S_ := SemArray.scalar (sig.barrier 0 rfl)

/-- The peer a device shares its block with on each of the three exchanges. -/
def peer (d : Dev nD) : Fin 3 → Dev nD
  | 0 => ⟨k0_dev4 d, k0_dev4_lt d⟩
  | 1 => ⟨k0_dev5 d, k0_dev5_lt d⟩
  | 2 => ⟨k0_dev6 d, k0_dev6_lt d⟩

/-! ## The pure values -/

/-- A contraction chunk's product; -/
def mm1 (v : FVec F S64x512 .f32) (w : Vec F S1x512x4096 .f32) : FVec F S64x4096 .f32 :=
  matmul dot_S64x512_S512x4096_S64x4096_1_0_0_1_n_n none v (shapeCast S512x4096 w shapeCasts_S1x512x4096_S512x4096)
    (constant S64x4096 .f32 0x00000000#32)
/-- the hidden row's first chunk, -/
def acc0 (v : FVec F S64x512 .f32) (w : Vec F S1x512x4096 .f32) : FVec F S64x4096 .f32 :=
  shapeCast S64x4096 (mm1 v w) shapeCasts_S64x4096_S64x4096
/-- a later one added to it, -/
def acc1 (v : FVec F S64x512 .f32) (w : Vec F S1x512x4096 .f32) (h : Vec F S64x4096 .f32) : FVec F S64x4096 .f32 :=
  shapeCast S64x4096 (addf h (mm1 v w)) shapeCasts_S64x4096_S64x4096
/-- rectified, -/
def relu (h : Vec F S64x4096 .f32) : FVec F S64x4096 .f32 :=
  shapeCast S64x4096 (maximumf h (broadcast S64x4096 (Scalar.ofBits .f32 0x00000000#32 : F .f32))) shapeCasts_S64x4096_S64x4096
/-- a chunk of the output projection, -/
def proj (h : Vec F S64x4096 .f32) (w : Vec F S1x4096x512 .f32) : FVec F S1x1x64x512 .f32 :=
  shapeCast S1x1x64x512
    (matmul dot_S64x4096_S4096x512_S64x512_1_0_0_1_n_n none h (shapeCast S4096x512 w shapeCasts_S1x4096x512_S4096x512)
      (constant S64x512 .f32 0x00000000#32)) shapeCasts_S64x512_S1x1x64x512
/-- and the four devices' blocks added. -/
def red (s : Vec F S1x1x64x512 .f32) (r0 r1 r2 : Vec F S1x1x1x64x512 .f32) : FVec F S64x512 .f32 :=
  addf (addf (addf (shapeCast S64x512 s shapeCasts_S1x1x64x512_S64x512)
    (shapeCast S64x512 r0 shapeCasts_S1x1x1x64x512_S64x512))
    (shapeCast S64x512 r1 shapeCasts_S1x1x1x64x512_S64x512))
    (shapeCast S64x512 r2 shapeCasts_S1x1x1x64x512_S64x512)

/-! ## The pieces, each before what follows it -/

def w1Start (l : Fin 3) (c : Fin 4) (k : KP F) : KP F :=
  .op (.enqueueDma (w1Src l c) (.here (b1Dst c)) (.dma (w1Sem c).sem) (View.wordExact_bits rfl)
    ((View.wordExact_bits rfl).reshape _ _) ⟨Or.inl rfl, trivial⟩) fun _ => k
def w2Start (l : Fin 3) (c : Fin 4) (k : KP F) : KP F :=
  .op (.enqueueDma (w2Src l c) (.here (b2Dst c)) (.dma (w2Sem c).sem) (View.wordExact_bits rfl)
    ((View.wordExact_bits rfl).reshape _ _) ⟨Or.inl rfl, trivial⟩) fun _ => k
def w1Wait (l : Fin 3) (c : Fin 4) (k : KP F) : KP F :=
  .op (.waitDma2 (w1Sem c).sem (w1Src l c) (b1Dst c) (View.wordExact_bits rfl) ((View.wordExact_bits rfl).reshape _ _)) fun _ => k
def w2Wait (l : Fin 3) (c : Fin 4) (k : KP F) : KP F :=
  .op (.waitDma2 (w2Sem c).sem (w2Src l c) (b2Dst c) (View.wordExact_bits rfl) ((View.wordExact_bits rfl).reshape _ _)) fun _ => k

def loadX (c : Fin 4) (k : Vec F S64x512 .f32 → KP F) : KP F :=
  .op (.load xM (xR c).toLoadRect (View.loadsAt_vmem h_S64x512)) k
def loadO (c : Fin 4) (k : Vec F S64x512 .f32 → KP F) : KP F :=
  .op (.load oM (xR c).toLoadRect (View.loadsAt_vmem h_S64x512)) k
def loadH (k : Vec F S64x4096 .f32 → KP F) : KP F :=
  .op (.load hM hR.toLoadRect (View.loadsAt_vmem h_S64x4096)) k
def storeH (v : FVec F S64x4096 .f32) (k : KP F) : KP F :=
  .op (.store hM hR v Finset.univ (View.stores_vmem_bits_univ h_S64x4096 rfl) (.inl rfl)) fun _ => k
def storeO (c : Fin 4) (v : FVec F S64x512 .f32) (k : KP F) : KP F :=
  .op (.store oM (xR c) v Finset.univ (View.stores_vmem_bits_univ h_S64x512 rfl) (.inl rfl)) fun _ => k
def loadB1 (c : Fin 4) (k : Vec F S1x512x4096 .f32 → KP F) : KP F :=
  .op (.load b1M (b1R c).toLoadRect (View.loadsAt_vmem h_S1x512x4096)) k
def loadB2 (c : Fin 4) (k : Vec F S1x4096x512 .f32 → KP F) : KP F :=
  .op (.load b2M (b2R c).toLoadRect (View.loadsAt_vmem h_S1x4096x512)) k
def loadS (l : Fin 3) (j : Fin 4) (k : Vec F S1x1x64x512 .f32 → KP F) : KP F :=
  .op (.load sendM (sendR l j).toLoadRect (View.loadsAt_vmem h_S1x1x64x512)) k
def storeS (l : Fin 3) (j : Fin 4) (v : FVec F S1x1x64x512 .f32) (k : KP F) : KP F :=
  .op (.store sendM (sendR l j) v Finset.univ (View.stores_vmem_bits_univ h_S1x1x64x512 rfl) (.inl rfl)) fun _ => k
def loadR (l : Fin 3) (j : Fin 4) (e : Fin 3) (k : Vec F S1x1x1x64x512 .f32 → KP F) : KP F :=
  .op (.load recvM (recvR l j e).toLoadRect (View.loadsAt_vmem h_S1x1x1x64x512)) k
def send (d : Dev nD) (l : Fin 3) (j : Fin 4) (e : Fin 3) (k : KP F) : KP F :=
  .op (.enqueueDma (sendB l j) (.remote (Dev.tc (peer d e)) (recvB l j e) (.dma (sSem l j e).sem)) (.dma (rSem l j e).sem)
    ((View.wordExact_bits rfl).reshape _ _) ((View.wordExact_bits rfl).reshape _ _) ⟨⟨rfl, Or.inl rfl⟩, trivial⟩) fun _ => k
def waitR (l : Fin 3) (j : Fin 4) (e : Fin 3) (k : KP F) : KP F :=
  .op (.waitDma2 (rSem l j e).sem (sendB l j) (recvB l j e) ((View.wordExact_bits rfl).reshape _ _)
    ((View.wordExact_bits rfl).reshape _ _)) fun _ => k
def waitS (l : Fin 3) (j : Fin 4) (e : Fin 3) (k : KP F) : KP F :=
  .op (.waitDma2 (sSem l j e).sem (recvB l j e) (sendB l j) ((View.wordExact_bits rfl).reshape _ _)
    ((View.wordExact_bits rfl).reshape _ _)) fun _ => k

/-- The exchange's opening: tell the three peers, hear from the three. -/
def shake (d : Dev nD) (k : KP F) : KP F :=
  .op (.semSignal (Dev.tc (peer d 0)) barS.sem (1#32).toInt) fun _ =>
  .op (.semSignal (Dev.tc (peer d 1)) barS.sem (1#32).toInt) fun _ =>
  .op (.semSignal (Dev.tc (peer d 2)) barS.sem (1#32).toInt) fun _ =>
  .op (.semWait barS.sem (3#32).toInt) fun _ => k

/-- A block of the layer's total: the three landed blocks waited for, then the four added. -/
def reduced (l : Fin 3) (j : Fin 4) (k : FVec F S64x512 .f32 → KP F) : KP F :=
  waitR l j 0 <| waitR l j 1 <| waitR l j 2 <|
  loadS l j fun s => loadR l j 0 fun r0 => loadR l j 1 fun r1 => loadR l j 2 fun r2 => k (red s r0 r1 r2)

/-- The layer's input chunk. -/
def input : Fin 3 → Fin 4 → (FVec F S64x512 .f32 → KP F) → KP F
  | 0, c, k => loadX c fun v => k (shapeCast S64x512 v shapeCasts_S64x512_S64x512)
  | 1, c, k => reduced 0 c k
  | 2, c, k => reduced 1 c k

def first (l : Fin 3) (v : FVec F S64x512 .f32) (k : KP F) : KP F :=
  w1Wait l 0 <| loadB1 0 fun w => loadH fun _ => storeH (acc0 v w) k
def later (l : Fin 3) (c : Fin 4) (v : FVec F S64x512 .f32) (k : KP F) : KP F :=
  w1Wait l c <| loadB1 c fun w => loadH fun h => loadH fun _ => storeH (acc1 v w h) k
def rectify (k : KP F) : KP F := loadH fun h => loadH fun _ => storeH (relu h) k
def project (d : Dev nD) (l : Fin 3) (j : Fin 4) (k : KP F) : KP F :=
  w2Wait l j <| loadH fun h => loadB2 j fun w => loadS l j fun _ => storeS l j (proj h w) <|
  send d l j 0 <| send d l j 1 <| send d l j 2 k

/-- A layer up to its last two projections. -/
def layer (d : Dev nD) (l : Fin 3) (k : KP F) : KP F :=
  (input l 0 fun v => first l v <| w1Start l 2 <|
  input l 1 fun v => later l 1 v <| w1Start l 3 <|
  input l 2 fun v => later l 2 v <| w2Start l 0 <|
  input l 3 fun v => later l 3 v <| w2Start l 1 <|
  rectify <|
  project d l 0 <| w2Start l 2 <|
  project d l 1 <| w2Start l 3 k)

def tail (d : Dev nD) (l l' : Fin 3) (k : KP F) : KP F :=
  project d l 2 <| w1Start l' 0 <| project d l 3 <| w1Start l' 1 k

def emit (j : Fin 4) (k : KP F) : KP F :=
  reduced 2 j fun v => loadO j fun _ => storeO j v k

def drain (l : Fin 3) (j : Fin 4) (k : KP F) : KP F := waitS l j 0 <| waitS l j 1 <| waitS l j 2 k
def drainL (l : Fin 3) (k : KP F) : KP F := drain l 0 <| drain l 1 <| drain l 2 <| drain l 3 k

/-- The whole body. -/
def prog : KP F :=
  .op .deviceId fun d =>
  shake d <| w1Start 0 0 <| w1Start 0 1 <|
  layer d 0 <| tail d 0 1 <|
  layer d 1 <| tail d 1 2 <|
  layer d 2 <| project d 2 2 <| project d 2 3 <|
  emit 0 <| emit 1 <| emit 2 <| emit 3 <|
  drainL 0 <| drainL 1 <| drainL 2 (.ret ⟨⟩)

end Cert.KernelIdeal.Body

end
-- ==== Proof.Vals.lean ====
/- What each device holds at each step, as a function of the launch memory: the layer inputs, the hidden rows, the
   devices' partial blocks, the totals, the result. Over any float values. -/
module

public import proofs.«01_k».proof.Proof.Prog

@[expose] public section

noncomputable section

namespace Cert.KernelIdeal.Body

open Idealize.ShloMosaic Idealize.ShloMosaic.TcCoe Idealize.SL.Sem Cert.KernelIdeal Cert.KernelIdeal.Gen

variable {F : FTy → Type} [FloatOps F]

/-! ## The peers -/

theorem peer_peer (d : Dev nD) (e : Fin 3) : peer (peer d e) e = d := by
  revert d e; decide
theorem peer_inj (d : Dev nD) (e e' : Fin 3) (h : peer d e = peer d e') : e = e' := by
  revert d e e'; decide
/-- Exchanging along one direction pairs the devices up. -/
def across (e : Fin 3) : Dev nD ≃ Dev nD := ⟨fun d => peer d e, fun d => peer d e, fun d => peer_peer d e, fun d => peer_peer d e⟩

/-! ## The semaphores' places -/

theorem sSem_val (l : Fin 3) (j : Fin 4) (e : Fin 3) : ((sSem l j e).sem).val = 6 + (12 * l.val + 3 * j.val + e.val) := by
  revert l j e; decide
theorem rSem_val (l : Fin 3) (j : Fin 4) (e : Fin 3) : ((rSem l j e).sem).val = 42 + (12 * l.val + 3 * j.val + e.val) := by
  revert l j e; decide
theorem w1Sem_val (c : Fin 4) : ((w1Sem c).sem).val = 2 + c.val % 2 := by revert c; decide
theorem w2Sem_val (c : Fin 4) : ((w2Sem c).sem).val = 4 + c.val % 2 := by revert c; decide

/-- A block's credit. -/
abbrev N : ℕ := (recvB 0 0 0).view.dmaCredit
theorem N_pos : 0 < N := View.dmaCredit_pos _ (by decide)
theorem N_recv (l : Fin 3) (j : Fin 4) (e : Fin 3) : (recvB l j e).view.dmaCredit = N := rfl
theorem N_send (l : Fin 3) (j : Fin 4) : (sendB l j).view.dmaCredit = N := rfl

/-! ## The values -/

variable (m : (ℓ : Loc nD τ sig) → Buf (Elt F) ℓ)

/-- The device's `x` as staged. -/
def xstg (c : Dev nD) : (cc0_stg0_0 : Ref sig .tc).ty.Contents (Elt F) :=
  (win0_0.blk (0 : Fin 1)).view.read (Elt F) (m ((c : Thread nD τ).loc main_arg0))

/-- The contents of a layer's weight arrays at launch; -/
def win (c : Dev nD) (l : Fin 3) : Buf (Elt F) ((winM l).view.loc (c : Thread nD τ)) := m _
def wout (c : Dev nD) (l : Fin 3) : Buf (Elt F) ((woutM l).view.loc (c : Thread nD τ)) := m _
/-- their slices. -/
def W1 (c : Dev nD) (l : Fin 3) (j : Fin 4) : FVec F S512x4096 .f32 := (w1Src l j).view.read (Elt F) (win m c l)
def W2 (c : Dev nD) (l : Fin 3) (j : Fin 4) : FVec F S4096x512 .f32 := (w2Src l j).view.read (Elt F) (wout m c l)

/-- A contraction chunk; -/
def mmc (v : FVec F S64x512 .f32) (w : FVec F S512x4096 .f32) : FVec F S64x4096 .f32 :=
  matmul dot_S64x512_S512x4096_S64x4096_1_0_0_1_n_n none v w (constant S64x4096 .f32 0x00000000#32)
def hid0 (v : FVec F S64x512 .f32) (w : FVec F S512x4096 .f32) : FVec F S64x4096 .f32 :=
  shapeCast S64x4096 (mmc v w) shapeCasts_S64x4096_S64x4096
def hid1 (v : FVec F S64x512 .f32) (w : FVec F S512x4096 .f32) (h : FVec F S64x4096 .f32) : FVec F S64x4096 .f32 :=
  shapeCast S64x4096 (addf h (mmc v w)) shapeCasts_S64x4096_S64x4096
/-- the hidden rows of a layer's input; -/
def hidden (v : Fin 4 → FVec F S64x512 .f32) (w : Fin 4 → FVec F S512x4096 .f32) : FVec F S64x4096 .f32 :=
  relu (hid1 (v 3) (w 3) (hid1 (v 2) (w 2) (hid1 (v 1) (w 1) (hid0 (v 0) (w 0)))))
/-- a block of the projection. -/
def outc (h : FVec F S64x4096 .f32) (w : FVec F S4096x512 .f32) : FVec F S64x512 .f32 :=
  matmul dot_S64x4096_S4096x512_S64x512_1_0_0_1_n_n none h w (constant S64x512 .f32 0x00000000#32)

/-- Every device's blocks of a vector of rows. -/
abbrev Rows (F : FTy → Type) [FloatOps F] := Dev nD → Fin 4 → FVec F S64x512 .f32

/-- The devices' own contributions to layer `l` at input `X`; -/
def partialOf (l : Fin 3) (X : Rows F) : Rows F := fun c j => outc (hidden (X c) (W1 m c l)) (W2 m c l j)
/-- the four added, the device's own first. -/
def total (P : Rows F) : Rows F := fun c j => addf (addf (addf (P c j) (P (peer c 0) j)) (P (peer c 1) j)) (P (peer c 2) j)

def X0 : Rows F := fun c j =>
  shapeCast S64x512 (xM.view.readAt (Elt F) (xR j).toLoadRect (xstg m c)) shapeCasts_S64x512_S64x512
def X1 : Rows F := total (partialOf m 0 (X0 m))
def X2 : Rows F := total (partialOf m 1 (X1 m))
/-- Layer `l`'s input, contributions, total. -/
def Xin : Fin 3 → Rows F
  | 0 => X0 m
  | 1 => X1 m
  | 2 => X2 m
def PV (l : Fin 3) : Rows F := partialOf m l (Xin m l)
def RV (l : Fin 3) : Rows F := total (PV m l)

/-- The result on device `c`. -/
def outAt (c : Dev nD) : (cc0_stg1_0 : Ref sig .tc).ty.Contents (Elt F) := fun i =>
  RV m 2 c ⟨(i 1).val / 512, by have := (i 1).isLt; exact (Nat.div_lt_iff_lt_mul (by decide)).2 this⟩
    (Fin.cons (⟨(i 0).val, (i 0).isLt⟩ : Fin 64) (Fin.cons (⟨(i 1).val % 512, Nat.mod_lt _ (by decide)⟩ : Fin 512) fun a => a.elim0))

end Cert.KernelIdeal.Body

end
-- ==== Proof.Proto.lean ====
/- The exchange's protocol: one round on each of a device's barrier, send and receive cells, what each hands over,
   what a device owes and the order in which it waits. -/
module

public import proofs.«01_k».proof.Proof.Vals
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Pipeline (Dat Cfg Window BodyObligation cellOf)

variable {F : FTy → Type} [FloatOps F]

/-! ## The resource algebra: the pipeline's rounds, the exchange's rounds (three duties), the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  (Emb.inl : Emb UB (UB × Counters)).trans (embR : Emb (UB × Counters) (MT nD τ sig Unit (Elt F) ℕ UU ℕ))
instance ER_landsIn : (ER : Emb UB 𝕄).LandsIn (upEmb : UEmb _ 𝕄) := by unfold ER; infer_instance

variable (m : (ℓ : Loc nD τ sig) → Buf (Elt F) ℓ)

/-! ## The cells -/

/-- A block: its layer and its chunk. -/
abbrev Blk : Type := Fin 3 × Fin 4
abbrev barCell (c : Dev nD) : GSem nD τ sig := ((c : Thread nD τ), .reg barS.sem)
abbrev sCell (c : Dev nD) (p : Blk) (e : Fin 3) : GSem nD τ sig := ((c : Thread nD τ), .dma (sSem p.1 p.2 e).sem)
abbrev rCell (c : Dev nD) (p : Blk) (e : Fin 3) : GSem nD τ sig := ((c : Thread nD τ), .dma (rSem p.1 p.2 e).sem)

/-- The place of a transfer cell, decoded: its layer, its chunk, its direction. -/
def atL (n : ℕ) : Fin 3 := ⟨n / 12 % 3, Nat.mod_lt _ (by decide)⟩
def atJ (n : ℕ) : Fin 4 := ⟨n / 3 % 4, Nat.mod_lt _ (by decide)⟩
def atE (n : ℕ) : Fin 3 := ⟨n % 3, Nat.mod_lt _ (by decide)⟩
theorem atL_at (l : Fin 3) (j : Fin 4) (e : Fin 3) : atL (12 * l.val + 3 * j.val + e.val) = l := by
  apply Fin.ext; simp only [atL]; omega
theorem atJ_at (l : Fin 3) (j : Fin 4) (e : Fin 3) : atJ (12 * l.val + 3 * j.val + e.val) = j := by
  apply Fin.ext; simp only [atJ]; omega
theorem atE_at (l : Fin 3) (j : Fin 4) (e : Fin 3) : atE (12 * l.val + 3 * j.val + e.val) = e := by
  apply Fin.ext; simp only [atE]; omega

/-! ## What the cells hand over -/

/-- A landing block at contents `f`; -/
def rPts (c : Dev nD) (p : Blk) (e : Fin 3) (f : Buf (Elt F) ((recvB p.1 p.2 e).view.loc (c : Thread nD τ))) : sProp 𝕄 :=
  (recvB p.1 p.2 e).view.loc (c : Thread nD τ) ↦[(recvB p.1 p.2 e).view.set]{fullShare} f
/-- a share of a block to send. -/
def sPts (c : Dev nD) (p : Blk) (q : PosShare TreeShare) (f : Buf (Elt F) ((sendB p.1 p.2).view.loc (c : Thread nD τ))) : sProp 𝕄 :=
  (sendB p.1 p.2).view.loc (c : Thread nD τ) ↦[(sendB p.1 p.2).view.set]{q} f

/-- The peer across direction `e` lets `c` write its landing blocks of that direction. -/
def barPay (c : Dev nD) (e : Fin 3) : sProp 𝕄 := bigSep Finset.univ fun p : Blk => iprop(∃ f, rPts (peer c e) p e f)
/-- A landed block: the contribution of the peer across. -/
def rPay (c : Dev nD) (p : Blk) (e : Fin 3) : sProp 𝕄 := rPts c p e ((recvB p.1 p.2 e).view.rep (PV m p.1 (peer c e) p.2))
/-- A sent block's share, back. -/
def sPay (c : Dev nD) (p : Blk) (e : Fin 3) : sProp 𝕄 := sPts c p (shareTok fullShare 3 e) ((sendB p.1 p.2).view.rep (PV m p.1 c p.2))

omit [FloatOps F] in
instance rPts_storable (c : Dev nD) (p : Blk) (e : Fin 3) (f) : BI.Storable (upEmb : UEmb _ 𝕄) (rPts (F := F) c p e f) := by unfold rPts; infer_instance
omit [FloatOps F] in
instance sPts_storable (c : Dev nD) (p : Blk) (q) (f) : BI.Storable (upEmb : UEmb _ 𝕄) (sPts (F := F) c p q f) := by unfold sPts; infer_instance
omit [FloatOps F] in
instance barPay_storable (c : Dev nD) (e : Fin 3) : BI.Storable (upEmb : UEmb _ 𝕄) (barPay (F := F) c e) := by unfold barPay; infer_instance
instance rPay_storable (c : Dev nD) (p : Blk) (e : Fin 3) : BI.Storable (upEmb : UEmb _ 𝕄) (rPay m c p e) := by unfold rPay; infer_instance
instance sPay_storable (c : Dev nD) (p : Blk) (e : Fin 3) : BI.Storable (upEmb : UEmb _ 𝕄) (sPay m c p e) := by unfold sPay; infer_instance

/-! ## The schedule -/

/-- Round 0 only. The barrier has one duty per direction, of a unit; a transfer cell one of a block's credit. -/
def duty (sm : SemLoc sig) : Finset (Fin 3) := match sm with
  | .reg _ => Finset.univ
  | .dma q => if 6 ≤ q.val then {0} else ∅
def pay (c : Dev nD) (sm : SemLoc sig) (e : Fin 3) : sProp 𝕄 := match sm with
  | .reg _ => barPay c e
  | .dma q => if 42 ≤ q.val then rPay m c (atL (q.val - 42), atJ (q.val - 42)) (atE (q.val - 42))
      else sPay m c (atL (q.val - 6), atJ (q.val - 6)) (atE (q.val - 6))
def amt (sm : SemLoc sig) : ℕ := match sm with
  | .reg _ => 1
  | .dma _ => N

def sched : Rounds.Schedule (GSem nD τ sig) (Fin 3) 𝕄 where
  duties g r := if r = 0 ∧ g.1.2 = .tc then duty g.2 else ∅
  unitless _ := False
  amount g _ _ := amt g.2
  payload g _ e := pay m g.1.1 g.2 e
  amount_pos g _ _ _ := by
    rcases g.2 with s | q
    · exact Nat.one_pos
    · exact N_pos

instance sched_payload_storable (g : GSem nD τ sig) (r : ℕ) (e : Fin 3) :
    BI.Storable (upEmb : UEmb _ 𝕄) ((sched m).payload g r e) := by
  show BI.Storable upEmb (pay m g.1.1 g.2 e)
  rcases g with ⟨t, s | q⟩
  · show BI.Storable upEmb (barPay t.1 e); infer_instance
  · unfold pay; dsimp only; split <;> infer_instance

section Tables

variable (c : Dev nD) (p : Blk) (e : Fin 3)

theorem duties_tc (sm : SemLoc sig) : (sched m).duties ((c : Thread nD τ), sm) 0 = duty sm := by
  dsimp only [sched]; exact if_pos ⟨rfl, rfl⟩
theorem duties_bar : (sched m).duties (barCell c) 0 = Finset.univ := duties_tc m c _
theorem duties_s : (sched m).duties (sCell c p e) 0 = {0} := by
  refine (duties_tc m c _).trans (if_pos ?_); rw [sSem_val]; omega
theorem duties_r : (sched m).duties (rCell c p e) 0 = {0} := by
  refine (duties_tc m c _).trans (if_pos ?_); rw [rSem_val]; omega
theorem duties_later (g : GSem nD τ sig) : ∀ r, 1 ≤ r → (sched m).duties g r = ∅ :=
  fun r hr => if_neg fun h => by omega

theorem amount_bar (d : Fin 3) : (sched m).amount (barCell c) 0 d = 1 := rfl
theorem amount_s (d : Fin 3) : (sched m).amount (sCell c p e) 0 d = N := rfl
theorem amount_r (d : Fin 3) : (sched m).amount (rCell c p e) 0 d = N := rfl

theorem expect_bar : (sched m).expect (barCell c) 0 = 3 := by
  unfold Schedule.expect Schedule.amountOf
  rw [duties_bar, Finset.sum_congr rfl fun d _ => amount_bar m c d]; rfl
theorem expect_s : (sched m).expect (sCell c p e) 0 = N := by
  unfold Schedule.expect Schedule.amountOf; rw [duties_s, Finset.sum_singleton, amount_s]
theorem expect_r : (sched m).expect (rCell c p e) 0 = N := by
  unfold Schedule.expect Schedule.amountOf; rw [duties_r, Finset.sum_singleton, amount_r]

theorem payload_bar (d : Fin 3) : (sched m).payload (barCell c) 0 d = barPay c d := rfl
theorem payload_s (d : Fin 3) : (sched m).payload (sCell c p e) 0 d = sPay m c p e := by
  show pay m c (.dma (sSem p.1 p.2 e).sem) d = _
  unfold pay; dsimp only
  have h := sSem_val p.1 p.2 e
  rw [if_neg (by have := p.1.isLt; have := p.2.isLt; have := e.isLt; omega), h, Nat.add_sub_cancel_left, atL_at, atJ_at, atE_at]
theorem payload_r (d : Fin 3) : (sched m).payload (rCell c p e) 0 d = rPay m c p e := by
  show pay m c (.dma (rSem p.1 p.2 e).sem) d = _
  unfold pay; dsimp only
  have h := rSem_val p.1 p.2 e
  rw [if_pos (by omega), h, Nat.add_sub_cancel_left, atL_at, atJ_at, atE_at]

/-- What a whole round hands over. -/
theorem rest_bar : bigSep ((sched m).duties (barCell c) 0 \ ∅) (fun d => (sched m).payload (barCell c) 0 d)
    = (bigSep Finset.univ fun d : Fin 3 => barPay c d : sProp 𝕄) := by
  rw [Finset.sdiff_empty, duties_bar]; rfl
theorem rest_s : bigSep ((sched m).duties (sCell c p e) 0 \ ∅) (fun d => (sched m).payload (sCell c p e) 0 d) = sPay m c p e := by
  rw [Finset.sdiff_empty, duties_s, bigSep_singleton, payload_s]
theorem rest_r : bigSep ((sched m).duties (rCell c p e) 0 \ ∅) (fun d => (sched m).payload (rCell c p e) 0 d) = rPay m c p e := by
  rw [Finset.sdiff_empty, duties_r, bigSep_singleton, payload_r]

end Tables

/-! ## What a device owes, and the order of its waits -/

/-- A block's three landings at the peers, the first transfer's outermost. -/
def owe3 (c : Dev nD) (p : Blk) (O : CellTallies nD τ sig Unit) : CellTallies nD τ sig Unit :=
  O + tallyAt (rCell (peer c 2) p 2) () N + tallyAt (rCell (peer c 1) p 1) () N + tallyAt (rCell (peer c 0) p 0) () N
/-- The landings of the blocks still to send, in program order. -/
def owed (c : Dev nD) : List Blk → CellTallies nD τ sig Unit
  | [] => 0
  | p :: ps => owe3 c p (owed c ps)
/-- The blocks in the order they are sent. -/
abbrev order : List Blk := [(0, 0), (0, 1), (0, 2), (0, 3), (1, 0), (1, 1), (1, 2), (1, 3), (2, 0), (2, 1), (2, 2), (2, 3)]
/-- At launch: every landing and a unit at each peer's barrier. -/
def O₀ (c : Dev nD) : CellTallies nD τ sig Unit :=
  owed c order + tallyAt (barCell (peer c 2)) () 1 + tallyAt (barCell (peer c 1)) () 1 + tallyAt (barCell (peer c 0)) () 1

def L (g : GSem nD τ sig) : Finset Unit := if g.1.2 = .tc then {()} else ∅
/-- Barriers at 1, a layer's landings above the layer before's, everything else at 0. -/
def rank (sm : SemLoc sig) : ℕ := match sm with
  | .reg _ => 1
  | .dma q => if 42 ≤ q.val then 2 + (q.val - 42) / 12 else 0
def lv (g : GSem nD τ sig) (_ : Unit) : ℕ := rank g.2

theorem L_of_ne (g : GSem nD τ sig) (h : g.1.2 ≠ .tc) : L g = ∅ := if_neg h
theorem L_tc (c : Dev nD) (sm : SemLoc sig) : L ((c : Thread nD τ), sm) = {()} := if_pos rfl
theorem rank_r (l : Fin 3) (j : Fin 4) (e : Fin 3) : rank (.dma (rSem l j e).sem) = 2 + l.val := by
  unfold rank; dsimp only; rw [rSem_val, if_pos (by omega)]; omega
theorem rank_s (l : Fin 3) (j : Fin 4) (e : Fin 3) : rank (.dma (sSem l j e).sem) = 0 := by
  unfold rank; dsimp only; rw [sSem_val, if_neg (by omega)]
theorem rank_w1 (c : Fin 4) : rank (.dma (w1Sem c).sem) = 0 := by
  unfold rank; dsimp only; rw [w1Sem_val, if_neg (by omega)]
theorem rank_w2 (c : Fin 4) : rank (.dma (w2Sem c).sem) = 0 := by
  unfold rank; dsimp only; rw [w2Sem_val, if_neg (by omega)]

theorem tally_pos {g g' : GSem nD τ sig} {u u' : Unit} {n : ℕ} (h : 0 < (tallyAt g' u' n : CellTallies nD τ sig Unit) g u) : g = g' := by
  rw [tallyAt_apply] at h
  by_contra hn
  rw [if_neg (fun h' => hn h'.1)] at h
  exact Nat.lt_irrefl 0 h
theorem add_pos' {O O' : CellTallies nD τ sig Unit} {g : GSem nD τ sig} {u : Unit} (h : 0 < (O + O') g u) : 0 < O g u ∨ 0 < O' g u := by
  rw [Pi.add_apply, Finsupp.add_apply] at h; omega

/-- A tally owed only at device cores' cells of rank above `n`. -/
def Above (n : ℕ) (O : CellTallies nD τ sig Unit) : Prop := ∀ g u, 0 < O g u → g.1.2 = .tc ∧ n < rank g.2

theorem above_zero (n : ℕ) : Above n 0 := fun g u h => absurd h (Nat.lt_irrefl 0)
theorem above_add {n : ℕ} {O O' : CellTallies nD τ sig Unit} (h : Above n O) (h' : Above n O') : Above n (O + O') :=
  fun g u hg => (add_pos' hg).elim (h g u) (h' g u)
theorem above_r {n : ℕ} (c : Dev nD) (p : Blk) (e : Fin 3) (k : ℕ) (h : n < 2 + p.1.val) : Above n (tallyAt (rCell c p e) () k) :=
  fun g u hg => by rw [tally_pos hg]; exact ⟨rfl, by rw [rank_r]; exact h⟩
theorem above_bar {n : ℕ} (c : Dev nD) (k : ℕ) (h : n < 1) : Above n (tallyAt (barCell c) () k) :=
  fun g u hg => by rw [tally_pos hg]; exact ⟨rfl, h⟩
theorem above_owe3 {n : ℕ} (c : Dev nD) (p : Blk) {O : CellTallies nD τ sig Unit} (h : n < 2 + p.1.val) (hO : Above n O) : Above n (owe3 c p O) :=
  above_add (above_add (above_add hO (above_r _ _ _ _ h)) (above_r _ _ _ _ h)) (above_r _ _ _ _ h)
theorem above_owed {n : ℕ} (c : Dev nD) : ∀ ps : List Blk, (∀ p ∈ ps, n < 2 + p.1.val) → Above n (owed c ps)
  | [], _ => above_zero n
  | p :: ps, h => above_owe3 c p (h p (.head _)) (above_owed c ps fun q hq => h q (.tail _ hq))

/-- A device may wait at a cell of rank `n` owing only above it. -/
theorem mayWait (c : Dev nD) (sm : SemLoc sig) (n : ℕ) (hn : rank sm = n) {O : CellTallies nD τ sig Unit} (hO : Above n O) :
    (levAts L lv : sProp 𝕄) ⊢ MayWait (c : Thread nD τ) sm () O :=
  MayOwe.of_cut (L := L) (lev := lv) n (fun q hq => by rw [Finset.mem_singleton.mp hq, L_tc]; exact Finset.mem_singleton_self _)
    (fun g u hg => by unfold L; rw [if_pos (hO g u hg).1]; exact Finset.mem_singleton_self _)
    (fun q hq => by rw [Finset.mem_singleton.mp hq]; exact le_of_eq hn)
    (fun g u hg => (hO g u hg).2)

theorem above_O₀ (c : Dev nD) : Above 0 (O₀ c) := by
  unfold O₀
  exact above_add (above_add (above_add (above_owed c order fun p _ => by omega) (above_bar _ _ (by decide))) (above_bar _ _ (by decide)))
    (above_bar _ _ (by decide))

end Cert.KernelIdeal.Body

end
-- ==== Proof.Frag.lean ====
/- The body's pieces, each from what it needs to what it leaves: the local buffers, the weight slices' copies, the
   exchange's transfers and waits. Stated of a symbolic device, layer, chunk and direction. -/
module

public import proofs.«01_k».proof.Proof.Proto
public import Idealize.ShloMosaic.Lib.VecWindow

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop Flight)
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- A piece run on device `c`. -/
abbrev WP (c : Dev nD) (k : KP F) (Q : PUnit → sProp 𝕄) : sProp 𝕄 :=
  wp frame (wpE (defs₀ (F := F)) 𝒱₀ (c : Thread nD τ) none) Set.univ k Q

variable (m : (ℓ : Loc nD τ sig) → Buf (Elt F) ℓ)

/-! ## The cells' invariants and reached marks, of every device -/

/-- A device's cells: its barrier, its send cells, its receive cells. -/
abbrev CellIx : Type := Option (Bool × Blk × Fin 3)
def csem : CellIx → SemLoc sig
  | none => .reg barS.sem
  | some (false, p, e) => .dma (sSem p.1 p.2 e).sem
  | some (true, p, e) => .dma (rSem p.1 p.2 e).sem
abbrev kcell (ck : Dev nD × CellIx) : GSem nD τ sig := ((ck.1 : Thread nD τ), csem ck.2)

/-- What every device may use again and again. -/
def env (K : Dev nD × CellIx → ℕ) : sProp 𝕄 :=
  iprop((bigSep Finset.univ fun ck : Dev nD × CellIx => cellInv ER (sched m) (K ck) (kcell ck))
    ∗ (bigSep Finset.univ fun ck : Dev nD × CellIx => reached ER (kcell ck) 0) ∗ levAts L lv)
instance env_persistent (K : Dev nD × CellIx → ℕ) : BI.Persistent (env m K) := by unfold env; infer_instance

variable (K : Dev nD × CellIx → ℕ) (c : Dev nD)

theorem inv_at (ck : Dev nD × CellIx) :
    (bigSep Finset.univ fun ck : Dev nD × CellIx => (cellInv ER (sched m) (K ck) (kcell ck) : sProp 𝕄)) ⊢ cellInv ER (sched m) (K ck) (kcell ck) :=
  bigSep_elim (Finset.mem_univ ck)
omit [FloatOps F] in
theorem reached_at (ck : Dev nD × CellIx) :
    (bigSep Finset.univ fun ck : Dev nD × CellIx => (reached ER (kcell ck) 0 : sProp 𝕄)) ⊢ reached ER (kcell ck) 0 :=
  bigSep_elim (Finset.mem_univ ck)
theorem env_inv (ck : Dev nD × CellIx) : env m K ⊢ cellInv ER (sched m) (K ck) (kcell ck) := by
  unfold env; iintro ⟨H, -, -⟩; iapply (inv_at m K ck); iexact H
theorem env_reached (ck : Dev nD × CellIx) : env m K ⊢ reached ER (kcell ck) 0 := by
  unfold env; iintro ⟨-, H, -⟩; iapply (reached_at (F := F) ck); iexact H
theorem env_wait (sm : SemLoc sig) (n : ℕ) (hn : rank sm = n) {O : CellTallies nD τ sig Unit} (hO : Above n O) :
    env m K ⊢ MayWait (c : Thread nD τ) sm () O := by
  unfold env; iintro ⟨-, -, H⟩; iapply (mayWait (F := F) c sm n hn hO); iexact H

/-! ## The hidden rows, the input, the result -/

def hPts (h : FVec F S64x4096 .f32) : sProp 𝕄 := ((c : Thread nD τ).loc cc0_scratch0) ↦{fullShare} h
def xPts : sProp 𝕄 := ((c : Thread nD τ).loc cc0_stg0_0) ↦{fullShare} xstg m c
def oPts (f : (cc0_stg1_0 : Ref sig .tc).ty.Contents (Elt F)) : sProp 𝕄 := ((c : Thread nD τ).loc cc0_stg1_0) ↦{fullShare} f

variable {c}
variable {Q : PUnit → sProp (MT nD τ sig Unit (Elt F) ℕ UU ℕ)} {k : KP F}

theorem zero2 : (![0, 0] : Fin 2 → Nat) = fun _ => 0 := funext fun a => by fin_cases a <;> rfl

theorem loadH_ok {k : Vec F S64x4096 .f32 → KP F} {h : FVec F S64x4096 .f32} :
    hPts c h ⊢ iprop((hPts c h -∗ WP c (k h) Q) -∗ WP c (loadH k) Q) := by
  unfold hPts loadH
  iintro H Hk
  iapply (wp_load 𝒱₀ (c : Thread nD τ) none Set.univ (m := hM) (Finset.subset_univ _)) $$ H
  rw [show hM.view.readAt (Elt F) hR.toLoadRect h = h from Memref.readAt_unit_zero (Elt F) cc0_scratch0 zero2 _ h]
  iexact Hk
theorem storeH_ok {h v : FVec F S64x4096 .f32} : hPts c h ⊢ iprop((hPts c v -∗ WP c k Q) -∗ WP c (storeH v k) Q) := by
  unfold hPts storeH
  iintro H Hk
  iapply (wp_store 𝒱₀ (c : Thread nD τ) none Set.univ (m := hM) (r := hR) (Mk := Finset.univ) (Finset.subset_univ _)) $$ H
  rw [show (hM.access hR : View sig .tc _ _ _).write (Elt F) h v Finset.univ = v from
    Memref.write_access_unit_zero_univ (Elt F) cc0_scratch0 zero2 _ h v]
  iexact Hk
theorem loadX_ok (j : Fin 4) {k : Vec F S64x512 .f32 → KP F} :
    xPts m c ⊢ iprop((xPts m c -∗ WP c (k (xM.view.readAt (Elt F) (xR j).toLoadRect (xstg m c))) Q) -∗ WP c (loadX j k) Q) := by
  unfold xPts loadX
  iintro H Hk
  iapply (wp_load 𝒱₀ (c : Thread nD τ) none Set.univ (m := xM) (Finset.subset_univ _)) $$ H
  iexact Hk
theorem loadO_ok (j : Fin 4) {k : Vec F S64x512 .f32 → KP F} {f : (cc0_stg1_0 : Ref sig .tc).ty.Contents (Elt F)} :
    oPts c f ⊢ iprop((oPts c f -∗ WP c (k (oM.view.readAt (Elt F) (xR j).toLoadRect f)) Q) -∗ WP c (loadO j k) Q) := by
  unfold oPts loadO
  iintro H Hk
  iapply (wp_load 𝒱₀ (c : Thread nD τ) none Set.univ (m := oM) (Finset.subset_univ _)) $$ H
  iexact Hk
theorem storeO_ok (j : Fin 4) {v : FVec F S64x512 .f32} {f : (cc0_stg1_0 : Ref sig .tc).ty.Contents (Elt F)} :
    oPts c f ⊢ iprop((oPts c ((oM.access (xR j) : View sig .tc _ _ _).write (Elt F) f v Finset.univ) -∗ WP c k Q) -∗ WP c (storeO j v k) Q) := by
  unfold oPts storeO
  iintro H Hk
  iapply (wp_store 𝒱₀ (c : Thread nD τ) none Set.univ (m := oM) (r := xR j) (Mk := Finset.univ) (Finset.subset_univ _)) $$ H
  iexact Hk

/-! ## What a device still owes -/

variable (c) in
/-- It owes the landings of the blocks `ps`. -/
def OW (ps : List Blk) : sProp 𝕄 := iprop(∃ W, owes (c : Thread nD τ) (owed c ps) W)

/-! ## The weight slices -/

/-- The share of a weight array a slot's copies read under: the left half for the even slot, the right for the odd. -/
def half (j : Fin 4) : PosShare TreeShare := if j.val % 2 = 0 then fullShare.left else fullShare.right

variable (c) in
/-- A slot at contents `f`; -/
def b1Pts (j : Fin 4) (f : Buf (Elt F) ((b1Dst j).view.loc (c : Thread nD τ))) : sProp 𝕄 :=
  (b1Dst j).view.loc (c : Thread nD τ) ↦[(b1Dst j).view.set]{fullShare} f
variable (c) in
/-- free for the next copy, its semaphore at zero; -/
def free1 (j : Fin 4) : sProp 𝕄 := iprop((∃ f, b1Pts c j f) ∗ semVal ((c : Thread nD τ), SemLoc.dma (w1Sem j).sem) 0)
variable (c) in
/-- the array it reads; -/
def arr1 (l : Fin 3) (j : Fin 4) : sProp 𝕄 := (winM l).view.loc (c : Thread nD τ) ↦{half j} win m c l
variable (c) in
/-- a copy in flight. -/
def fly1 (l : Fin 3) (j : Fin 4) : sProp 𝕄 :=
  iprop((∃ f, Flight countersEmb (c : Thread nD τ) (.dma (w1Sem j).sem) () (b1Dst j).view.dmaCredit
      iprop(b1Pts c j ((b1Dst j).view.write (Elt F) f (W1 m c l j) Finset.univ)
        ∗ ((w1Src l j).view.loc (c : Thread nD τ) ↦[(w1Src l j).view.set]{half j} win m c l)))
    ∗ ((winM l).view.loc (c : Thread nD τ) ↦[Finset.univ \ (w1Src l j).view.set]{half j} win m c l))

variable (c) in
def b2Pts (j : Fin 4) (f : Buf (Elt F) ((b2Dst j).view.loc (c : Thread nD τ))) : sProp 𝕄 :=
  (b2Dst j).view.loc (c : Thread nD τ) ↦[(b2Dst j).view.set]{fullShare} f
variable (c) in
def free2 (j : Fin 4) : sProp 𝕄 := iprop((∃ f, b2Pts c j f) ∗ semVal ((c : Thread nD τ), SemLoc.dma (w2Sem j).sem) 0)
variable (c) in
def arr2 (l : Fin 3) (j : Fin 4) : sProp 𝕄 := (woutM l).view.loc (c : Thread nD τ) ↦{half j} wout m c l
variable (c) in
def fly2 (l : Fin 3) (j : Fin 4) : sProp 𝕄 :=
  iprop((∃ f, Flight countersEmb (c : Thread nD τ) (.dma (w2Sem j).sem) () (b2Dst j).view.dmaCredit
      iprop(b2Pts c j ((b2Dst j).view.write (Elt F) f (W2 m c l j) Finset.univ)
        ∗ ((w2Src l j).view.loc (c : Thread nD τ) ↦[(w2Src l j).view.set]{half j} wout m c l)))
    ∗ ((woutM l).view.loc (c : Thread nD τ) ↦[Finset.univ \ (w2Src l j).view.set]{half j} wout m c l))

theorem w1Start_ok (l : Fin 3) (j : Fin 4) :
    iprop(free1 c j ∗ arr1 m c l j) ⊢ iprop((fly1 m c l j -∗ WP c k Q) -∗ WP c (w1Start l j k) Q) := by
  unfold free1 arr1 fly1 w1Start b1Pts
  iintro ⟨⟨⟨%f, Hd⟩, Hz⟩, Ha⟩ Hk
  ihave Hs := (pointsTo_split_subset (Finset.subset_univ (w1Src l j).view.set)).1 $$ Ha
  icases Hs with ⟨Hs, Hr⟩
  iapply (Transfers.wp_dmaLocal countersEmb 𝒱₀ (c : Thread nD τ) none (src := w1Src l j) (via := .same) (dst := b1Dst j) (sm := .dma (w1Sem j).sem)
    (q := half j) (fs := win m c l) (Sd := (b1Dst j).view.set) (fd := f) () (b1Dst j).view.dmaCredit rfl (View.dmaCredit_pos _ (by decide)) (Finset.Subset.refl _)) $$ [Hd Hz Hs]
  · isplitl [Hs]; · iexact Hs
    isplitl [Hd] <;> iassumption
  iintro Hf
  iapply Hk
  isplitl [Hf]
  · iexists f; iexact Hf
  · iexact Hr

theorem w2Start_ok (l : Fin 3) (j : Fin 4) :
    iprop(free2 c j ∗ arr2 m c l j) ⊢ iprop((fly2 m c l j -∗ WP c k Q) -∗ WP c (w2Start l j k) Q) := by
  unfold free2 arr2 fly2 w2Start b2Pts
  iintro ⟨⟨⟨%f, Hd⟩, Hz⟩, Ha⟩ Hk
  ihave Hs := (pointsTo_split_subset (Finset.subset_univ (w2Src l j).view.set)).1 $$ Ha
  icases Hs with ⟨Hs, Hr⟩
  iapply (Transfers.wp_dmaLocal countersEmb 𝒱₀ (c : Thread nD τ) none (src := w2Src l j) (via := .same) (dst := b2Dst j) (sm := .dma (w2Sem j).sem)
    (q := half j) (fs := wout m c l) (Sd := (b2Dst j).view.set) (fd := f) () (b2Dst j).view.dmaCredit rfl (View.dmaCredit_pos _ (by decide)) (Finset.Subset.refl _)) $$ [Hd Hz Hs]
  · isplitl [Hs]; · iexact Hs
    isplitl [Hd] <;> iassumption
  iintro Hf
  iapply Hk
  isplitl [Hf]
  · iexists f; iexact Hf
  · iexact Hr

/-- A slot holding the slice. -/
def held1 (c : Dev nD) (l : Fin 3) (j : Fin 4) : sProp 𝕄 :=
  iprop((∃ f, ⌜(b1Dst j).view.read (Elt F) f = W1 m c l j⌝ ∗ b1Pts c j f) ∗ semVal ((c : Thread nD τ), SemLoc.dma (w1Sem j).sem) 0)
def held2 (c : Dev nD) (l : Fin 3) (j : Fin 4) : sProp 𝕄 :=
  iprop((∃ f, ⌜(b2Dst j).view.read (Elt F) f = W2 m c l j⌝ ∗ b2Pts c j f) ∗ semVal ((c : Thread nD τ), SemLoc.dma (w2Sem j).sem) 0)

theorem w1Wait_ok (l : Fin 3) (j : Fin 4) (ps : List Blk) :
    iprop(env m K ∗ fly1 m c l j ∗ OW c ps) ⊢ iprop((iprop(held1 m c l j ∗ arr1 m c l j ∗ OW c ps) -∗ WP c k Q) -∗ WP c (w1Wait l j k) Q) := by
  unfold fly1 arr1 held1 w1Wait OW
  iintro ⟨#He, ⟨⟨%f, Hf⟩, Hr⟩, ⟨%W, HO⟩⟩ Hk
  iapply (Transfers.wp_waitLocalO countersEmb 𝒱₀ (c : Thread nD τ) none (sem := (w1Sem j).sem) (srcw := w1Src l j) (dstw := b1Dst j) () rfl) $$ [Hf HO]
  · isplitl [Hf]; · iexact Hf
    isplitl [HO]; · iexact HO
    iapply (env_wait m K c (.dma (w1Sem j).sem) 0 (rank_w1 j) (above_owed c ps fun p _ => by omega)); iexact He
  iintro ⟨⟨Hb, Hs⟩, Hz, HO⟩
  iapply Hk
  isplitl [Hb Hz]
  · isplitl [Hb]
    · iexists ((b1Dst j).view.write (Elt F) f (W1 m c l j) Finset.univ); isplitr
      · ipureintro; exact View.read_write_univ _ _
      iexact Hb
    iexact Hz
  isplitl [Hs Hr]
  · iapply ((pointsTo_split_subset (Finset.subset_univ (w1Src l j).view.set)).2)
    isplitl [Hs]; · iexact Hs
    iexact Hr
  iexists _; iexact HO
theorem w2Wait_ok (l : Fin 3) (j : Fin 4) (ps : List Blk) :
    iprop(env m K ∗ fly2 m c l j ∗ OW c ps) ⊢ iprop((iprop(held2 m c l j ∗ arr2 m c l j ∗ OW c ps) -∗ WP c k Q) -∗ WP c (w2Wait l j k) Q) := by
  unfold fly2 arr2 held2 w2Wait OW
  iintro ⟨#He, ⟨⟨%f, Hf⟩, Hr⟩, ⟨%W, HO⟩⟩ Hk
  iapply (Transfers.wp_waitLocalO countersEmb 𝒱₀ (c : Thread nD τ) none (sem := (w2Sem j).sem) (srcw := w2Src l j) (dstw := b2Dst j) () rfl) $$ [Hf HO]
  · isplitl [Hf]; · iexact Hf
    isplitl [HO]; · iexact HO
    iapply (env_wait m K c (.dma (w2Sem j).sem) 0 (rank_w2 j) (above_owed c ps fun p _ => by omega)); iexact He
  iintro ⟨⟨Hb, Hs⟩, Hz, HO⟩
  iapply Hk
  isplitl [Hb Hz]
  · isplitl [Hb]
    · iexists ((b2Dst j).view.write (Elt F) f (W2 m c l j) Finset.univ); isplitr
      · ipureintro; exact View.read_write_univ _ _
      iexact Hb
    iexact Hz
  isplitl [Hs Hr]
  · iapply ((pointsTo_split_subset (Finset.subset_univ (w2Src l j).view.set)).2)
    isplitl [Hs]; · iexact Hs
    iexact Hr
  iexists _; iexact HO

/-- A load at a slice's rectangle stays within the slice with unit axes dropped. -/
theorem load_within {sp : Space} {s s' : Shape} {e : EltTy} (M : Memref sig .tc sp s e) (r : Rect s) (hr : ∀ a, r.stride a = 1)
    (hq : r.shape.Squeezes s') : M.view.setOn r.toLoadRect.set ⊆ ((M.slice r hr).squeeze s' hq).view.set := by
  rw [Memref.set_view_squeeze]
  show Finset.map _ _ ⊆ (M.view.slice r).set
  rw [View.set_slice]

/-- What a load off a slot holding the slice reads, without its unit axis, is the slice. -/
theorem loadB1_ok (l : Fin 3) (j : Fin 4) {k : Vec F S1x512x4096 .f32 → KP F} :
    held1 m c l j ⊢ iprop((∀ w : Vec F S1x512x4096 .f32,
        iprop(⌜shapeCast S512x4096 w shapeCasts_S1x512x4096_S512x4096 = W1 m c l j⌝ -∗ free1 c j -∗ WP c (k w) Q)) -∗ WP c (loadB1 j k) Q) := by
  unfold held1 free1 b1Pts loadB1
  iintro ⟨⟨%f, %hf, H⟩, Hz⟩ Hk
  iapply (wp_load 𝒱₀ (c : Thread nD τ) none Set.univ (m := b1M) (S := (b1Dst j).view.set) (f := f) (load_within b1M (b1R j) _ _)) $$ H
  iintro H
  iapply Hk $$ %(b1M.view.readAt (Elt F) (b1R j).toLoadRect f) [] [H Hz]
  · ipureintro; exact hf
  isplitl [H]
  · iexists f; iexact H
  iexact Hz
theorem loadB2_ok (l : Fin 3) (j : Fin 4) {k : Vec F S1x4096x512 .f32 → KP F} :
    held2 m c l j ⊢ iprop((∀ w : Vec F S1x4096x512 .f32,
        iprop(⌜shapeCast S4096x512 w shapeCasts_S1x4096x512_S4096x512 = W2 m c l j⌝ -∗ free2 c j -∗ WP c (k w) Q)) -∗ WP c (loadB2 j k) Q) := by
  unfold held2 free2 b2Pts loadB2
  iintro ⟨⟨%f, %hf, H⟩, Hz⟩ Hk
  iapply (wp_load 𝒱₀ (c : Thread nD τ) none Set.univ (m := b2M) (S := (b2Dst j).view.set) (f := f) (load_within b2M (b2R j) _ _)) $$ H
  iintro H
  iapply Hk $$ %(b2M.view.readAt (Elt F) (b2R j).toLoadRect f) [] [H Hz]
  · ipureintro; exact hf
  isplitl [H]
  · iexists f; iexact H
  iexact Hz

variable (F) in
/-- A slot by its number, any contents, with its semaphore at zero. -/
def slot1 (c : Dev nD) (n : ℕ) (hb : ∀ a, (![n, 0, 0] : Fin 3 → ℕ) a + S1x512x4096.size a ≤ S2x512x4096.size a)
    (hs : ∀ a, (![n] : Fin 1 → ℕ) a + S1.size a ≤ S2.size a) : sProp 𝕄 :=
  iprop((∃ f : Buf (Elt F) (((b1M.slice (Rect.unit (s := S2x512x4096) ![n, 0, 0] S1x512x4096.size hb) (fun _ => rfl)).squeeze S512x4096
        squeezes_S1x512x4096_S512x4096).view.loc (c : Thread nD τ)),
      ((b1M.slice (Rect.unit (s := S2x512x4096) ![n, 0, 0] S1x512x4096.size hb) (fun _ => rfl)).squeeze S512x4096
        squeezes_S1x512x4096_S512x4096).view.loc (c : Thread nD τ)
      ↦[((b1M.slice (Rect.unit (s := S2x512x4096) ![n, 0, 0] S1x512x4096.size hb) (fun _ => rfl)).squeeze S512x4096
        squeezes_S1x512x4096_S512x4096).view.set]{fullShare} f)
    ∗ semVal ((c : Thread nD τ), SemLoc.dma ((cc0_scratch5.slice (Rect.unit (s := S2) ![n] S1.size hs)).squeeze S_ squeezes_S1_S_).sem) 0)
variable (F) in
def slot2 (c : Dev nD) (n : ℕ) (hb : ∀ a, (![n, 0, 0] : Fin 3 → ℕ) a + S1x4096x512.size a ≤ S2x4096x512.size a)
    (hs : ∀ a, (![n] : Fin 1 → ℕ) a + S1.size a ≤ S2.size a) : sProp 𝕄 :=
  iprop((∃ f : Buf (Elt F) (((b2M.slice (Rect.unit (s := S2x4096x512) ![n, 0, 0] S1x4096x512.size hb) (fun _ => rfl)).squeeze S4096x512
        squeezes_S1x4096x512_S4096x512).view.loc (c : Thread nD τ)),
      ((b2M.slice (Rect.unit (s := S2x4096x512) ![n, 0, 0] S1x4096x512.size hb) (fun _ => rfl)).squeeze S4096x512
        squeezes_S1x4096x512_S4096x512).view.loc (c : Thread nD τ)
      ↦[((b2M.slice (Rect.unit (s := S2x4096x512) ![n, 0, 0] S1x4096x512.size hb) (fun _ => rfl)).squeeze S4096x512
        squeezes_S1x4096x512_S4096x512).view.set]{fullShare} f)
    ∗ semVal ((c : Thread nD τ), SemLoc.dma ((cc0_scratch6.slice (Rect.unit (s := S2) ![n] S1.size hs)).squeeze S_ squeezes_S1_S_).sem) 0)

theorem slot1_congr {n n' : ℕ} (h : n = n') {hb hs hb' hs'} : slot1 F c n hb hs = slot1 F c n' hb' hs' := by subst h; rfl
theorem slot2_congr {n n' : ℕ} (h : n = n') {hb hs hb' hs'} : slot2 F c n hb hs = slot2 F c n' hb' hs' := by subst h; rfl
theorem free1_slot (j : Fin 4) : (free1 c j : sProp 𝕄) = slot1 F c (j.val % 2) (inb_b1 j) (inb_sem j) := rfl
theorem free2_slot (j : Fin 4) : (free2 c j : sProp 𝕄) = slot2 F c (j.val % 2) (inb_b2 j) (inb_sem j) := rfl

/-- A slot freed is free for the chunk two on. -/
theorem free1_next (j j' : Fin 4) (h : j.val % 2 = j'.val % 2) : (free1 c j : sProp 𝕄) = free1 c j' := by
  rw [free1_slot, free1_slot]; exact slot1_congr h
theorem free2_next (j j' : Fin 4) (h : j.val % 2 = j'.val % 2) : (free2 c j : sProp 𝕄) = free2 c j' := by
  rw [free2_slot, free2_slot]; exact slot2_congr h
theorem arr1_next (l : Fin 3) (j j' : Fin 4) (h : j.val % 2 = j'.val % 2) : arr1 m c l j = arr1 m c l j' := by
  unfold arr1 half; rw [h]
theorem arr2_next (l : Fin 3) (j j' : Fin 4) (h : j.val % 2 = j'.val % 2) : arr2 m c l j = arr2 m c l j' := by
  unfold arr2 half; rw [h]

/-! ## The hidden rows, chunk by chunk -/

/-- The first chunk: its slot freed for the chunk after next. -/
theorem first_ok (l : Fin 3) (ps : List Blk) (v : FVec F S64x512 .f32) :
    iprop(env m K ∗ fly1 m c l 0 ∗ OW c ps ∗ (∃ h, hPts c h))
      ⊢ iprop((iprop(free1 c 2 ∗ arr1 m c l 2 ∗ OW c ps ∗ hPts c (hid0 v (W1 m c l 0))) -∗ WP c k Q) -∗ WP c (first l v k) Q) := by
  unfold first
  iintro ⟨#He, Hf, HO, ⟨%h, Hh⟩⟩ Hk
  iapply (w1Wait_ok m K l 0 ps) $$ [Hf HO]
  · isplitr; · iexact He
    isplitl [Hf] <;> iassumption
  iintro ⟨Hb, Ha, HO⟩
  iapply (loadB1_ok m l 0) $$ Hb
  iintro %w %hw Hb
  iapply loadH_ok $$ Hh; iintro Hh
  iapply storeH_ok $$ Hh; iintro Hh
  iapply Hk
  isplitl [Hb]; · iapply (Entails.of_eq (free1_next 0 2 rfl)); iexact Hb
  isplitl [Ha]; · iapply (Entails.of_eq (arr1_next m l 0 2 rfl)); iexact Ha
  isplitl [HO]; · iexact HO
  rw [show acc0 v w = hid0 v (W1 m c l 0) from by rw [← hw]; rfl]
  iexact Hh

/-- A later one. -/
theorem later_ok (l : Fin 3) (j j' : Fin 4) (hj : j.val % 2 = j'.val % 2) (ps : List Blk) (v : FVec F S64x512 .f32) (h : FVec F S64x4096 .f32) :
    iprop(env m K ∗ fly1 m c l j ∗ OW c ps ∗ hPts c h)
      ⊢ iprop((iprop(free1 c j' ∗ arr1 m c l j' ∗ OW c ps ∗ hPts c (hid1 v (W1 m c l j) h)) -∗ WP c k Q) -∗ WP c (later l j v k) Q) := by
  unfold later
  iintro ⟨#He, Hf, HO, Hh⟩ Hk
  iapply (w1Wait_ok m K l j ps) $$ [Hf HO]
  · isplitr; · iexact He
    isplitl [Hf] <;> iassumption
  iintro ⟨Hb, Ha, HO⟩
  iapply (loadB1_ok m l j) $$ Hb
  iintro %w %hw Hb
  iapply loadH_ok $$ Hh; iintro Hh
  iapply loadH_ok $$ Hh; iintro Hh
  iapply storeH_ok $$ Hh; iintro Hh
  iapply Hk
  isplitl [Hb]; · iapply (Entails.of_eq (free1_next j j' hj)); iexact Hb
  isplitl [Ha]; · iapply (Entails.of_eq (arr1_next m l j j' hj)); iexact Ha
  isplitl [HO]; · iexact HO
  rw [show acc1 v w h = hid1 v (W1 m c l j) h from by rw [← hw]; rfl]
  iexact Hh

theorem rectify_ok (h : FVec F S64x4096 .f32) : hPts c h ⊢ iprop((hPts c (relu h) -∗ WP c k Q) -∗ WP c (rectify k) Q) := by
  unfold rectify
  iintro Hh Hk
  iapply loadH_ok $$ Hh; iintro Hh
  iapply loadH_ok $$ Hh; iintro Hh
  iapply storeH_ok $$ Hh; iexact Hk

/-! ## The exchange -/

variable (c) in
/-- What a transfer of block `p` along `e` needs beside the block: its two duties' tokens, the landing block. -/
def toSend (p : Blk) (e : Fin 3) : sProp 𝕄 :=
  iprop(dutyTok ER (sCell c p e) 0 0 ∗ dutyTok ER (rCell (peer c e) p e) 0 0 ∗ ∃ f, rPts (peer c e) p e f)

/-- Any contents of a landing block that read `X` are those of the representative of `X`. -/
theorem block_rep (d : Dev nD) (p : Blk) (e : Fin 3) (g : Buf (Elt F) ((recvB p.1 p.2 e).view.loc (d : Thread nD τ))) (X : S64x512.Idx → Elt F .f32)
    (h : (recvB p.1 p.2 e).view.read (Elt F) g = X) : (rPts d p e g : sProp 𝕄) ⊢ rPts d p e ((recvB p.1 p.2 e).view.rep X) :=
  pointsTo_rep_of_read (d : Thread nD τ) (recvB p.1 p.2 e) g fullShare X h

theorem rPay_peer (p : Blk) (e : Fin 3) :
    rPay m (peer c e) p e = rPts (peer c e) p e ((recvB p.1 p.2 e).view.rep (PV m p.1 c p.2)) := by
  unfold rPay; rw [peer_peer]

/-- A block landed is the receive payload at the peer. -/
theorem landed (p : Blk) (e : Fin 3) (f : Buf (Elt F) ((recvB p.1 p.2 e).view.loc ((peer c e : Dev nD) : Thread nD τ))) :
    (rPts (peer c e) p e ((recvB p.1 p.2 e).view.write (Elt F) f
        ((sendB p.1 p.2).view.read (Elt F) ((sendB p.1 p.2).view.rep (PV m p.1 c p.2))) Finset.univ) : sProp 𝕄) ⊢ rPay m (peer c e) p e := by
  rw [rPay_peer]
  exact block_rep (peer c e) p e _ (PV m p.1 c p.2) ((View.read_write_univ _ _).trans (View.read_rep _ _))

theorem send_ok (p : Blk) (e : Fin 3) (O : CellTallies nD τ sig Unit) :
    iprop(env m K ∗ sPay m c p e ∗ toSend c p e ∗ (∃ W, owes (c : Thread nD τ) (O + tallyAt (rCell (peer c e) p e) () N) W))
      ⊢ iprop((iprop(cred (tallyAt (sCell c p e) () N) ∗ ∃ W, owes (c : Thread nD τ) O W) -∗ WP c k Q)
          -∗ WP c (send c p.1 p.2 e k) Q) := by
  unfold toSend send
  iintro ⟨#He, Hs, ⟨Ht1, Ht2, ⟨%f, Hd⟩⟩, ⟨%W, HO⟩⟩ Hk
  ihave #Hi1 := (env_inv m K (c, some (false, p, e))) $$ He
  ihave #Hi2 := (env_inv m K (peer c e, some (true, p, e))) $$ He
  ihave #Hr1 := (env_reached m K (c, some (false, p, e))) $$ He
  ihave #Hr2 := (env_reached m K (peer c e, some (true, p, e))) $$ He
  unfold sPay rPts sPts
  iapply (Rounds.wp_send_pointsTo 𝒱₀ ER (sched m) (c : Thread nD τ) none (c' := Dev.tc (peer c e)) (src := sendB p.1 p.2) (dst := recvB p.1 p.2 e)
      (sS := .dma (sSem p.1 p.2 e).sem) (sem := .dma (rSem p.1 p.2 e).sem) (κ₁ := K (c, some (false, p, e))) (κ₂ := K (peer c e, some (true, p, e)))
      (r₁ := 0) (r₂ := 0) (d₁ := 0) (d₂ := 0) (fd := f)
      (by rw [duties_s]; exact Finset.mem_singleton_self _) (by rw [duties_r]; exact Finset.mem_singleton_self _)
      () () N rfl (amount_s m c p e 0) (amount_r m (peer c e) p e 0) O rfl (W := W)
      (by rw [payload_s]; exact BI.Entails.refl _)
      (by rw [payload_r]; exact landed m p e f)) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

end Cert.KernelIdeal.Body

end
-- ==== Proof.Exchange.lean ====
/- The exchange's pieces: a block stored and sent to the three peers, a block of the total, a block's shares drained,
   the opening handshake. Stated of a symbolic device, layer and chunk. -/
module

public import proofs.«01_k».proof.Proof.Frag
public import Idealize.ShloMosaic.Lib.Ring.AtN
public import Idealize.ShloMosaic.Lib.Pipeline.Value

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_fin4)
open Idealize.ShloMosaic.Transfers (shareTok shareDrop Flight)

variable {F : FTy → Type} [FloatOps F]

local notation "𝕄" => MT nD τ sig Unit (Elt F) ℕ UU ℕ

variable (m : (ℓ : Loc nD τ sig) → Buf (Elt F) ℓ) (K : Dev nD × CellIx → ℕ)
variable (c : Dev nD)

/-! ## A block's state on its sender -/

/-- Before: the block at any contents, and what its three transfers need. -/
def unsent (p : Blk) : sProp 𝕄 :=
  iprop((∃ f, sPts c p fullShare f) ∗ toSend c p 0 ∗ toSend c p 1 ∗ toSend c p 2)
/-- The transfer along `e` under way: the credit its wait spends, the cell's position. -/
def sent (p : Blk) (e : Fin 3) : sProp 𝕄 := cred (tallyAt (sCell c p e) () N)
/-- After: the share kept, the contents the contribution. -/
def kept (p : Blk) : sProp 𝕄 := sPts c p (shareDrop fullShare 3) ((sendB p.1 p.2).view.rep (PV m p.1 c p.2))
def gone (p : Blk) : sProp 𝕄 := iprop(kept m c p ∗ sent c p 0 ∗ sent c p 1 ∗ sent c p 2)

/-! ## A landing block on its receiver -/

/-- Before the wait: its credit, its cell's position; -/
def awaited (p : Blk) (e : Fin 3) : sProp 𝕄 := iprop(cred (tallyAt (rCell c p e) () N) ∗ atPos ER (rCell c p e) 0 ∅ 0)
/-- after: the peer's contribution, the counter at zero. -/
def landedAt (p : Blk) (e : Fin 3) : sProp 𝕄 := iprop(rPay m c p e ∗ semVal (rCell c p e) 0)
def coming (p : Blk) : sProp 𝕄 := iprop(awaited c p 0 ∗ awaited c p 1 ∗ awaited c p 2)
def come (p : Blk) : sProp 𝕄 := iprop(landedAt m c p 0 ∗ landedAt m c p 1 ∗ landedAt m c p 2)
/-- A send cell's position; closed, its counter. -/
def sAt (p : Blk) : sProp 𝕄 :=
  iprop(atPos ER (sCell c p 0) 0 ∅ 0 ∗ atPos ER (sCell c p 1) 0 ∅ 0 ∗ atPos ER (sCell c p 2) 0 ∅ 0)
/-- The block whole again, its three counters at zero. -/
def back (p : Blk) : sProp 𝕄 :=
  iprop((∃ f, sPts c p fullShare f) ∗ semVal (sCell c p 0) 0 ∗ semVal (sCell c p 1) 0 ∗ semVal (sCell c p 2) 0)

/-! ## Contents of a block -/

theorem sblock_rep (d : Dev nD) (p : Blk) (q : PosShare TreeShare) (g : Buf (Elt F) ((sendB p.1 p.2).view.loc (d : Thread nD τ))) (X : S64x512.Idx → Elt F .f32)
    (h : (sendB p.1 p.2).view.read (Elt F) g = X) : (sPts d p q g : sProp 𝕄) ⊢ sPts d p q ((sendB p.1 p.2).view.rep X) :=
  pointsTo_rep_of_read (d : Thread nD τ) (sendB p.1 p.2) g q X h

/-- The share kept and the three lent. -/
theorem lend (p : Blk) (f : Buf (Elt F) ((sendB p.1 p.2).view.loc (c : Thread nD τ))) :
    (sPts c p fullShare f : sProp 𝕄) ⊢ iprop(sPts c p (shareDrop fullShare 3) f ∗ sPts c p (shareTok fullShare 3 0) f
      ∗ sPts c p (shareTok fullShare 3 1) f ∗ sPts c p (shareTok fullShare 3 2) f) := by
  unfold sPts
  refine (Transfers.pointsTo_toks_split fullShare 3).trans ?_
  rw [bigSep_fin3]
theorem unlend (p : Blk) (f : Buf (Elt F) ((sendB p.1 p.2).view.loc (c : Thread nD τ))) :
    iprop(sPts c p (shareDrop fullShare 3) f ∗ sPts c p (shareTok fullShare 3 0) f
      ∗ sPts c p (shareTok fullShare 3 1) f ∗ sPts c p (shareTok fullShare 3 2) f) ⊢ (sPts c p fullShare f : sProp 𝕄) := by
  unfold sPts
  refine BI.Entails.trans ?_ (Transfers.pointsTo_toks_join fullShare 3)
  rw [bigSep_fin3]
  exact BI.Entails.refl _

variable {c}
variable {Q : PUnit → sProp (MT nD τ sig Unit (Elt F) ℕ UU ℕ)}
variable {k : KP F}

/-! ## Loads and the store -/

theorem loadS_ok (p : Blk) (q : PosShare TreeShare) (X : FVec F S64x512 .f32) {kk : Vec F S1x1x64x512 .f32 → KP F} :
    sPts c p q ((sendB p.1 p.2).view.rep X)
      ⊢ iprop((∀ s : Vec F S1x1x64x512 .f32, iprop(⌜shapeCast S64x512 s shapeCasts_S1x1x64x512_S64x512 = X⌝
          -∗ sPts c p q ((sendB p.1 p.2).view.rep X) -∗ WP c (kk s) Q)) -∗ WP c (loadS p.1 p.2 kk) Q) := by
  unfold sPts loadS
  iintro H Hk
  iapply (wp_load 𝒱₀ (c : Thread nD τ) none Set.univ (m := sendM) (S := (sendB p.1 p.2).view.set)
    (f := (sendB p.1 p.2).view.rep X) (load_within sendM (sendR p.1 p.2) _ _)) $$ H
  iintro H
  iapply Hk $$ %(sendM.view.readAt (Elt F) (sendR p.1 p.2).toLoadRect ((sendB p.1 p.2).view.rep X)) [] [H]
  · ipureintro; exact View.read_rep (Val := Elt F) (sendB p.1 p.2).view X
  iexact H

theorem loadS_any (p : Blk) {kk : Vec F S1x1x64x512 .f32 → KP F} (f : Buf (Elt F) ((sendB p.1 p.2).view.loc (c : Thread nD τ))) :
    sPts c p fullShare f
      ⊢ iprop((∀ s : Vec F S1x1x64x512 .f32, iprop(sPts c p fullShare f -∗ WP c (kk s) Q)) -∗ WP c (loadS p.1 p.2 kk) Q) := by
  unfold sPts loadS
  iintro H Hk
  iapply (wp_load 𝒱₀ (c : Thread nD τ) none Set.univ (m := sendM) (S := (sendB p.1 p.2).view.set)
    (f := f) (load_within sendM (sendR p.1 p.2) _ _)) $$ H
  iintro H
  iapply Hk $$ %(sendM.view.readAt (Elt F) (sendR p.1 p.2).toLoadRect f) H

theorem loadR_ok (p : Blk) (e : Fin 3) (X : FVec F S64x512 .f32) {kk : Vec F S1x1x1x64x512 .f32 → KP F} :
    rPts c p e ((recvB p.1 p.2 e).view.rep X)
      ⊢ iprop((∀ s : Vec F S1x1x1x64x512 .f32, iprop(⌜shapeCast S64x512 s shapeCasts_S1x1x1x64x512_S64x512 = X⌝
          -∗ rPts c p e ((recvB p.1 p.2 e).view.rep X) -∗ WP c (kk s) Q)) -∗ WP c (loadR p.1 p.2 e kk) Q) := by
  unfold rPts loadR
  iintro H Hk
  iapply (wp_load 𝒱₀ (c : Thread nD τ) none Set.univ (m := recvM) (S := (recvB p.1 p.2 e).view.set)
    (f := (recvB p.1 p.2 e).view.rep X) (load_within recvM (recvR p.1 p.2 e) _ _)) $$ H
  iintro H
  iapply Hk $$ %(recvM.view.readAt (Elt F) (recvR p.1 p.2 e).toLoadRect ((recvB p.1 p.2 e).view.rep X)) [] [H]
  · ipureintro; exact View.read_rep (Val := Elt F) (recvB p.1 p.2 e).view X
  iexact H

theorem stored (p : Blk) (X : FVec F S64x512 .f32) (f : Buf (Elt F) ((sendB p.1 p.2).view.loc (c : Thread nD τ))) :
    (sendB p.1 p.2).view.read (Elt F) ((sendM.access (sendR p.1 p.2) : View sig .tc _ _ _).write (Elt F) f
      (shapeCast S1x1x64x512 X shapeCasts_S64x512_S1x1x64x512) Finset.univ) = X := by
  show shapeCast S64x512 ((sendM.access (sendR p.1 p.2) : View sig .tc _ _ _).read (Elt F) _) shapeCasts_S1x1x64x512_S64x512 = X
  rw [View.read_write_univ]
  exact shapeCast_shapeCast X _ _

theorem storeS_ok (p : Blk) (X : FVec F S64x512 .f32) (f : Buf (Elt F) ((sendB p.1 p.2).view.loc (c : Thread nD τ))) :
    sPts c p fullShare f
      ⊢ iprop((sPts c p fullShare ((sendB p.1 p.2).view.rep X) -∗ WP c k Q)
          -∗ WP c (storeS p.1 p.2 (shapeCast S1x1x64x512 X shapeCasts_S64x512_S1x1x64x512) k) Q) := by
  iintro H Hk
  unfold storeS
  iapply (wp_store 𝒱₀ (c : Thread nD τ) none Set.univ (m := sendM) (r := sendR p.1 p.2) (Mk := Finset.univ) (S := (sendB p.1 p.2).view.set)
    (f := f) (by rw [Memref.set_view_squeeze]; exact Finset.Subset.refl _)) $$ [H]
  · unfold sPts; iexact H
  iintro H
  iapply Hk
  iapply (sblock_rep c p fullShare _ X (stored p X f))
  unfold sPts; iexact H

/-! ## A chunk projected, stored, sent -/

theorem project_ok (l : Fin 3) (j j' : Fin 4) (hj : j.val % 2 = j'.val % 2) (ps : List Blk) :
    iprop(env m K ∗ fly2 m c l j ∗ OW c ((l, j) :: ps) ∗ hPts c (hidden (Xin m l c) (W1 m c l)) ∗ unsent c (l, j))
      ⊢ iprop((iprop(free2 c j' ∗ arr2 m c l j' ∗ OW c ps ∗ hPts c (hidden (Xin m l c) (W1 m c l)) ∗ gone m c (l, j)) -∗ WP c k Q)
          -∗ WP c (project c l j k) Q) := by
  unfold project unsent
  iintro ⟨#He, Hf, HO, Hh, ⟨⟨%f, Hs⟩, Ht0, Ht1, Ht2⟩⟩ Hk
  iapply (w2Wait_ok m K l j ((l, j) :: ps)) $$ [Hf HO]
  · isplitr; · iexact He
    isplitl [Hf] <;> iassumption
  iintro ⟨Hb, Ha, HO⟩
  iapply loadH_ok $$ Hh; iintro Hh
  iapply (loadB2_ok m l j) $$ Hb
  iintro %w %hw Hb
  iapply (loadS_any (l, j) f) $$ Hs
  iintro %s Hs
  rw [show proj (hidden (Xin m l c) (W1 m c l)) w = shapeCast S1x1x64x512 (PV m l c j) shapeCasts_S64x512_S1x1x64x512 from by
    unfold proj; rw [hw]; rfl]
  iapply (storeS_ok (l, j) (PV m l c j) f) $$ Hs
  iintro Hs
  ihave Hs := (lend c (l, j) ((sendB l j).view.rep (PV m l c j))) $$ Hs
  icases Hs with ⟨Hkept, Hs0, Hs1, Hs2⟩
  unfold OW
  icases HO with ⟨%W, HO⟩
  iapply (send_ok m K (l, j) 0 (owed c ps + tallyAt (rCell (peer c 2) (l, j) 2) () N + tallyAt (rCell (peer c 1) (l, j) 1) () N)) $$ [Hs0 Ht0 HO]
  · isplitr; · iexact He
    isplitl [Hs0]; · unfold sPay; iexact Hs0
    isplitl [Ht0]; · iexact Ht0
    iexists W; iexact HO
  iintro ⟨Hc0, HO⟩
  iapply (send_ok m K (l, j) 1 (owed c ps + tallyAt (rCell (peer c 2) (l, j) 2) () N)) $$ [Hs1 Ht1 HO]
  · isplitr; · iexact He
    isplitl [Hs1]; · unfold sPay; iexact Hs1
    isplitl [Ht1]; · iexact Ht1
    iexact HO
  iintro ⟨Hc1, HO⟩
  iapply (send_ok m K (l, j) 2 (owed c ps)) $$ [Hs2 Ht2 HO]
  · isplitr; · iexact He
    isplitl [Hs2]; · unfold sPay; iexact Hs2
    isplitl [Ht2]; · iexact Ht2
    iexact HO
  iintro ⟨Hc2, HO⟩
  iapply Hk
  isplitl [Hb]; · iapply (Entails.of_eq (free2_next j j' hj)); iexact Hb
  isplitl [Ha]; · iapply (Entails.of_eq (arr2_next m l j j' hj)); iexact Ha
  isplitl [HO]; · iexact HO
  isplitl [Hh]; · iexact Hh
  unfold gone kept sent
  isplitl [Hkept]; · iexact Hkept
  isplitl [Hc0]; · iexact Hc0
  isplitl [Hc1] <;> iassumption

/-! ## A landing waited for -/

theorem waitR_spec (p : Blk) (e : Fin 3) (R : PUnit → sProp 𝕄) :
    wpE (defs₀ (F := F)) 𝒱₀ (c : Thread nD τ) none Set.univ (.waitDma2 (rSem p.1 p.2 e).sem (sendB p.1 p.2) (recvB p.1 p.2 e)
      ((View.wordExact_bits rfl).reshape _ _) ((View.wordExact_bits rfl).reshape _ _)) R
      = waitSpec (c : Thread nD τ) Set.univ (.dma (rSem p.1 p.2 e).sem) N R := rfl
theorem waitS_spec (p : Blk) (e : Fin 3) (R : PUnit → sProp 𝕄) :
    wpE (defs₀ (F := F)) 𝒱₀ (c : Thread nD τ) none Set.univ (.waitDma2 (sSem p.1 p.2 e).sem (recvB p.1 p.2 e) (sendB p.1 p.2)
      ((View.wordExact_bits rfl).reshape _ _) ((View.wordExact_bits rfl).reshape _ _)) R
      = waitSpec (c : Thread nD τ) Set.univ (.dma (sSem p.1 p.2 e).sem) N R := rfl

theorem waitR_ok (p : Blk) (e : Fin 3) (ps : List Blk) (h : ∀ q ∈ ps, p.1.val < q.1.val) :
    iprop(env m K ∗ awaited c p e ∗ OW c ps)
      ⊢ iprop((iprop(landedAt m c p e ∗ OW c ps) -∗ WP c k Q) -∗ WP c (waitR p.1 p.2 e k) Q) := by
  unfold awaited landedAt OW waitR
  iintro ⟨#He, ⟨Hc, Hat⟩, ⟨%W, HO⟩⟩ Hk
  ihave #Hi := (env_inv m K (c, some (true, p, e))) $$ He
  iapply (Rounds.wp_wait_rest_token 𝒱₀ ER (sched m) (c : Thread nD τ) none (κ := K (c, some (true, p, e)))
    (k' := N)
    (waitR_spec p e) (Set.mem_univ _) () (O := owed c ps) (W := W) (R := 0) (m := 0) (T := ∅)
    ((Nat.zero_add N).trans (expect_r m c p e).symm)) $$ [Hc HO Hat]
  · isplitr; · iexact Hi
    isplitl [Hc]; · iexact Hc
    isplitl [HO]; · iexact HO
    isplitr
    · iapply (env_wait m K c (.dma (rSem p.1 p.2 e).sem) (2 + p.1.val) (rank_r p.1 p.2 e) (above_owed c ps fun q hq => by have := h q hq; omega)); iexact He
    iexact Hat
  iintro ⟨HO, Hat, -, Hp⟩
  ihave Hp := (Entails.of_eq (rest_r m c p e)) $$ Hp
  imod (Rounds.cell_close ER (sched m) (Set.mem_univ (K (c, some (true, p, e)))) (fun h => h) (R := 0 + 1) (duties_later m (rCell c p e))) $$ [Hat] with Hz
  · isplitr; · iexact Hi
    iexact Hat
  iapply Hk
  isplitl [Hp Hz]
  · isplitl [Hp] <;> iassumption
  iexists _; iexact HO

theorem waitS_ok (p : Blk) (e : Fin 3) (ps : List Blk) :
    iprop(env m K ∗ sent c p e ∗ atPos ER (sCell c p e) 0 ∅ 0 ∗ OW c ps)
      ⊢ iprop((iprop(sPay m c p e ∗ semVal (sCell c p e) 0 ∗ OW c ps) -∗ WP c k Q) -∗ WP c (waitS p.1 p.2 e k) Q) := by
  unfold sent OW waitS
  iintro ⟨#He, Hc, Hat, ⟨%W, HO⟩⟩ Hk
  ihave #Hi := (env_inv m K (c, some (false, p, e))) $$ He
  iapply (Rounds.wp_wait_rest_token 𝒱₀ ER (sched m) (c : Thread nD τ) none (κ := K (c, some (false, p, e)))
    (k' := N)
    (waitS_spec p e) (Set.mem_univ _) () (O := owed c ps) (W := W) (R := 0) (m := 0) (T := ∅)
    ((Nat.zero_add N).trans (expect_s m c p e).symm)) $$ [Hc HO Hat]
  · isplitr; · iexact Hi
    isplitl [Hc]; · iexact Hc
    isplitl [HO]; · iexact HO
    isplitr
    · iapply (env_wait m K c (.dma (sSem p.1 p.2 e).sem) 0 (rank_s p.1 p.2 e) (above_owed c ps fun q hq => by omega)); iexact He
    iexact Hat
  iintro ⟨HO, Hat, -, Hp⟩
  ihave Hp := (Entails.of_eq (rest_s m c p e)) $$ Hp
  imod (Rounds.cell_close ER (sched m) (Set.mem_univ (K (c, some (false, p, e)))) (fun h => h) (R := 0 + 1) (duties_later m (sCell c p e))) $$ [Hat] with Hz
  · isplitr; · iexact Hi
    iexact Hat
  iapply Hk
  isplitl [Hp]; · iexact Hp
  isplitl [Hz]; · iexact Hz
  iexists _; iexact HO

/-- A block drained: its three shares home. -/
theorem drain_ok (l : Fin 3) (j : Fin 4) (ps : List Blk) :
    iprop(env m K ∗ gone m c (l, j) ∗ sAt c (l, j) ∗ OW c ps)
      ⊢ iprop((iprop(back c (l, j) ∗ OW c ps) -∗ WP c k Q) -∗ WP c (drain l j k) Q) := by
  unfold gone kept sAt back drain
  iintro ⟨#He, ⟨Hs, Hc0, Hc1, Hc2⟩, ⟨Ha0, Ha1, Ha2⟩, HO⟩ Hk
  iapply (waitS_ok m K (l, j) 0 ps) $$ [Hc0 Ha0 HO]
  · isplitr; · iexact He
    isplitl [Hc0]; · iexact Hc0
    isplitl [Ha0] <;> iassumption
  iintro ⟨Hp0, Hz0, HO⟩
  iapply (waitS_ok m K (l, j) 1 ps) $$ [Hc1 Ha1 HO]
  · isplitr; · iexact He
    isplitl [Hc1]; · iexact Hc1
    isplitl [Ha1] <;> iassumption
  iintro ⟨Hp1, Hz1, HO⟩
  iapply (waitS_ok m K (l, j) 2 ps) $$ [Hc2 Ha2 HO]
  · isplitr; · iexact He
    isplitl [Hc2]; · iexact Hc2
    isplitl [Ha2] <;> iassumption
  iintro ⟨Hp2, Hz2, HO⟩
  iapply Hk
  unfold sPay
  isplitr [HO]
  · isplitl [Hs Hp0 Hp1 Hp2]
    · iexists ((sendB l j).view.rep (PV m l c j))
      iapply (unlend c (l, j) ((sendB l j).view.rep (PV m l c j)))
      isplitl [Hs]; · iexact Hs
      isplitl [Hp0]; · iexact Hp0
      isplitl [Hp1] <;> iassumption
    isplitl [Hz0]; · iexact Hz0
    isplitl [Hz1] <;> iassumption
  iexact HO

/-! ## A block of the total -/

theorem reduced_ok (l : Fin 3) (j : Fin 4) (ps : List Blk) (h : ∀ q ∈ ps, l.val < q.1.val) {kk : FVec F S64x512 .f32 → KP F} :
    iprop(env m K ∗ kept m c (l, j) ∗ coming c (l, j) ∗ OW c ps)
      ⊢ iprop((iprop(kept m c (l, j) ∗ come m c (l, j) ∗ OW c ps) -∗ WP c (kk (RV m l c j)) Q) -∗ WP c (reduced l j kk) Q) := by
  unfold coming come reduced
  iintro ⟨#He, Hs, ⟨Hr0, Hr1, Hr2⟩, HO⟩ Hk
  iapply (waitR_ok m K (l, j) 0 ps h) $$ [Hr0 HO]
  · isplitr; · iexact He
    isplitl [Hr0] <;> iassumption
  iintro ⟨Hr0, HO⟩
  iapply (waitR_ok m K (l, j) 1 ps h) $$ [Hr1 HO]
  · isplitr; · iexact He
    isplitl [Hr1] <;> iassumption
  iintro ⟨Hr1, HO⟩
  iapply (waitR_ok m K (l, j) 2 ps h) $$ [Hr2 HO]
  · isplitr; · iexact He
    isplitl [Hr2] <;> iassumption
  iintro ⟨Hr2, HO⟩
  unfold landedAt kept rPay
  icases Hr0 with ⟨Hr0, Hz0⟩
  icases Hr1 with ⟨Hr1, Hz1⟩
  icases Hr2 with ⟨Hr2, Hz2⟩
  iapply (loadS_ok (l, j) (shareDrop fullShare 3) (PV m l c j)) $$ Hs
  iintro %s %hs Hs
  iapply (loadR_ok (l, j) 0 (PV m l (peer c 0) j)) $$ Hr0
  iintro %r0 %h0 Hr0
  iapply (loadR_ok (l, j) 1 (PV m l (peer c 1) j)) $$ Hr1
  iintro %r1 %h1 Hr1
  iapply (loadR_ok (l, j) 2 (PV m l (peer c 2) j)) $$ Hr2
  iintro %r2 %h2 Hr2
  rw [show red s r0 r1 r2 = RV m l c j from by unfold red; rw [hs, h0, h1, h2]; rfl]
  iapply Hk
  isplitl [Hs]; · iexact Hs
  isplitr [HO]
  · isplitl [Hr0 Hz0]
    · isplitl [Hr0] <;> iassumption
    isplitl [Hr1 Hz1]
    · isplitl [Hr1] <;> iassumption
    isplitl [Hr2] <;> iassumption
  iexact HO

end Cert.KernelIdeal.Body

end
-- ==== Proof.Layer.lean ====
/- The opening handshake and a whole layer, stated of a symbolic device and layer. -/
module

public import proofs.«01_k».proof.Proof.Exchange

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_fin4)
open Idealize.ShloMosaic.Transfers (shareTok shareDrop Flight)

variable {F : FTy → Type} [FloatOps F]

local notation "𝕄" => MT nD τ sig Unit (Elt F) ℕ UU ℕ

variable (m : (ℓ : Loc nD τ sig) → Buf (Elt F) ℓ) (K : Dev nD × CellIx → ℕ)
variable (c : Dev nD)

/-! ## The handshake -/

/-- A device's own landing blocks of direction `e`. -/
def landing (e : Fin 3) : sProp 𝕄 := bigSep Finset.univ fun p : Blk => iprop(∃ f, rPts c p e f)
theorem landing_pay (e : Fin 3) : (landing c e : sProp 𝕄) = barPay (peer c e) e := by
  unfold landing barPay; rw [peer_peer]

variable {c}
variable {Q : PUnit → sProp (MT nD τ sig Unit (Elt F) ℕ UU ℕ)}
variable {k : KP F}

theorem signal_ok (e : Fin 3) (O : CellTallies nD τ sig Unit) :
    iprop(env m K ∗ landing c e ∗ dutyTok ER (barCell (peer c e)) 0 e ∗ (∃ W, owes (c : Thread nD τ) (O + tallyAt (barCell (peer c e)) () 1) W))
      ⊢ iprop(((∃ W, owes (c : Thread nD τ) O W) -∗ WP c k Q)
          -∗ WP c (.op (.semSignal (Dev.tc (peer c e)) barS.sem (1#32).toInt) fun _ => k) Q) := by
  iintro ⟨#He, Hl, Ht, ⟨%W, HO⟩⟩ Hk
  ihave #Hi := (env_inv m K (peer c e, none)) $$ He
  ihave #Hr := (env_reached m K (peer c e, none)) $$ He
  iapply (Rounds.wp_signal 𝒱₀ ER (sched m) (c : Thread nD τ) none (dst := ((peer c e : Dev nD) : Thread nD τ)) (κ := K (peer c e, none))
      (d := e) (by rw [duties_bar]; exact Finset.mem_univ _) ((amount_bar m (peer c e) e).trans (by decide)) () O rfl) $$ [HO Hl Ht]
  · isplitr; · iexact Hi
    isplitl [HO]; · iexact HO
    isplitl [Ht]; · iexact Ht
    isplitl [Hl]
    · rw [payload_bar, ← landing_pay]; iexact Hl
    iexact Hr
  iintro HO
  iapply Hk
  iexists W; iexact HO

theorem shake_ok :
    iprop(env m K ∗ (landing c 0 ∗ landing c 1 ∗ landing c 2)
        ∗ (dutyTok ER (barCell (peer c 0)) 0 (0 : Fin 3) ∗ dutyTok ER (barCell (peer c 1)) 0 (1 : Fin 3) ∗ dutyTok ER (barCell (peer c 2)) 0 (2 : Fin 3))
        ∗ cred (tallyAt (barCell c) () 3) ∗ atPos ER (barCell c) 0 ∅ 0 ∗ (∃ W, owes (c : Thread nD τ) (O₀ c) W))
      ⊢ iprop((iprop(barPay c 0 ∗ barPay c 1 ∗ barPay c 2 ∗ semVal (barCell c) 0 ∗ OW c order) -∗ WP c k Q) -∗ WP c (shake c k) Q) := by
  unfold shake O₀
  iintro ⟨#He, ⟨Hl0, Hl1, Hl2⟩, ⟨Ht0, Ht1, Ht2⟩, Hc, Hat, HO⟩ Hk
  iapply (signal_ok m K 0 (owed c order + tallyAt (barCell (peer c 2)) () 1 + tallyAt (barCell (peer c 1)) () 1)) $$ [Hl0 Ht0 HO]
  · isplitr; · iexact He
    isplitl [Hl0]; · iexact Hl0
    isplitl [Ht0] <;> iassumption
  iintro HO
  iapply (signal_ok m K 1 (owed c order + tallyAt (barCell (peer c 2)) () 1)) $$ [Hl1 Ht1 HO]
  · isplitr; · iexact He
    isplitl [Hl1]; · iexact Hl1
    isplitl [Ht1] <;> iassumption
  iintro HO
  iapply (signal_ok m K 2 (owed c order)) $$ [Hl2 Ht2 HO]
  · isplitr; · iexact He
    isplitl [Hl2]; · iexact Hl2
    isplitl [Ht2] <;> iassumption
  iintro ⟨%W, HO⟩
  ihave #Hi := (env_inv m K (c, none)) $$ He
  iapply (Rounds.wp_wait_rest_token 𝒱₀ ER (sched m) (c : Thread nD τ) none (κ := K (c, none))
    (wpE_semWait_eq 𝒱₀ (c : Thread nD τ) none Set.univ) (Set.mem_univ _) () (O := owed c order) (W := W) (R := 0) (m := 0) (T := ∅)
    (by rw [expect_bar]; decide)) $$ [Hc HO Hat]
  · isplitr; · iexact Hi
    isplitl [Hc]; · iexact Hc
    isplitl [HO]; · iexact HO
    isplitr
    · iapply (env_wait m K c (.reg barS.sem) 1 rfl (above_owed c order fun q hq => by omega)); iexact He
    iexact Hat
  iintro ⟨HO, Hat, -, Hp⟩
  ihave Hp := (Entails.of_eq ((rest_bar m c).trans (bigSep_fin3 _))) $$ Hp
  icases Hp with ⟨Hp0, Hp1, Hp2⟩
  imod (Rounds.cell_close ER (sched m) (Set.mem_univ (K (c, none))) (fun h => h) (R := 0 + 1) (duties_later m (barCell c))) $$ [Hat] with Hz
  · isplitr; · iexact Hi
    iexact Hat
  iapply Hk
  isplitl [Hp0]; · iexact Hp0
  isplitl [Hp1]; · iexact Hp1
  isplitl [Hp2]; · iexact Hp2
  isplitl [Hz]; · iexact Hz
  unfold OW
  iexists _; iexact HO

/-! ## A layer's input chunk -/

variable (c) in
/-- A read token on the staged `x`. -/
def xTok (j : Fin 4) : sProp 𝕄 := ((c : Thread nD τ).loc cc0_stg0_0) ↦{shareTok fullShare 4 j} xstg m c
variable (c) in
/-- What reading an input chunk needs; -/
def inNeed : Fin 3 → Fin 4 → sProp 𝕄
  | 0, j => xTok m c j
  | 1, j => iprop(kept m c (0, j) ∗ coming c (0, j))
  | 2, j => iprop(kept m c (1, j) ∗ coming c (1, j))
variable (c) in
/-- what it leaves. -/
def inLeft : Fin 3 → Fin 4 → sProp 𝕄
  | 0, j => xTok m c j
  | 1, j => iprop(kept m c (0, j) ∗ come m c (0, j))
  | 2, j => iprop(kept m c (1, j) ∗ come m c (1, j))

theorem input_ok (l : Fin 3) (j : Fin 4) (ps : List Blk) (h : ∀ q ∈ ps, l ≤ q.1) {kk : FVec F S64x512 .f32 → KP F} :
    iprop(env m K ∗ inNeed m c l j ∗ OW c ps) ⊢ iprop((iprop(inLeft m c l j ∗ OW c ps) -∗ WP c (kk (Xin m l c j)) Q) -∗ WP c (input l j kk) Q) := by
  match l, h with
  | 0, h =>
    unfold inNeed inLeft xTok input loadX
    iintro ⟨#He, Hx, HO⟩ Hk
    iapply (wp_load 𝒱₀ (c : Thread nD τ) none Set.univ (m := xM) (Finset.subset_univ _)) $$ Hx
    iintro Hx
    iapply Hk
    isplitl [Hx] <;> iassumption
  | 1, h =>
    unfold inNeed inLeft input
    iintro ⟨#He, ⟨Hs, Hr⟩, HO⟩ Hk
    iapply (reduced_ok m K 0 j ps fun q hq => h q hq) $$ [Hs Hr HO]
    · isplitr; · iexact He
      isplitl [Hs]; · iexact Hs
      isplitl [Hr] <;> iassumption
    iintro ⟨Hs, Hr, HO⟩
    iapply Hk
    isplitr [HO]
    · isplitl [Hs] <;> iassumption
    iexact HO
  | 2, h =>
    unfold inNeed inLeft input
    iintro ⟨#He, ⟨Hs, Hr⟩, HO⟩ Hk
    iapply (reduced_ok m K 1 j ps fun q hq => h q hq) $$ [Hs Hr HO]
    · isplitr; · iexact He
      isplitl [Hs]; · iexact Hs
      isplitl [Hr] <;> iassumption
    iintro ⟨Hs, Hr, HO⟩
    iapply Hk
    isplitr [HO]
    · isplitl [Hs] <;> iassumption
    iexact HO

/-! ## A layer -/

variable (c) in
/-- The second weights' two slots free, the array at hand. -/
def idle2 (l : Fin 3) : sProp 𝕄 := iprop((free2 c 0 ∗ arr2 m c l 0) ∗ (free2 c 1 ∗ arr2 m c l 1))
variable (c) in
/-- The first weights' likewise. -/
def idle1 (l : Fin 3) : sProp 𝕄 := iprop((free1 c 0 ∗ arr1 m c l 0) ∗ (free1 c 1 ∗ arr1 m c l 1))

theorem layer_ok (l : Fin 3) (ps : List Blk) (h : ∀ q ∈ ps, l ≤ q.1) :
    iprop(env m K ∗ fly1 m c l 0 ∗ fly1 m c l 1 ∗ idle2 m c l ∗ OW c ((l, 0) :: (l, 1) :: (l, 2) :: (l, 3) :: ps) ∗ (∃ h, hPts c h)
        ∗ (inNeed m c l 0 ∗ inNeed m c l 1 ∗ inNeed m c l 2 ∗ inNeed m c l 3) ∗ unsent c (l, 0) ∗ unsent c (l, 1))
      ⊢ iprop((iprop(idle1 m c l ∗ fly2 m c l 2 ∗ fly2 m c l 3 ∗ OW c ((l, 2) :: (l, 3) :: ps) ∗ hPts c (hidden (Xin m l c) (W1 m c l))
            ∗ (inLeft m c l 0 ∗ inLeft m c l 1 ∗ inLeft m c l 2 ∗ inLeft m c l 3) ∗ gone m c (l, 0) ∗ gone m c (l, 1)) -∗ WP c k Q)
          -∗ WP c (layer c l k) Q) := by
  have h' : ∀ q ∈ (l, (0 : Fin 4)) :: (l, 1) :: (l, 2) :: (l, 3) :: ps, l ≤ q.1 := by
    intro q hq
    simp only [List.mem_cons] at hq
    rcases hq with rfl | rfl | rfl | rfl | hq
    · exact le_rfl
    · exact le_rfl
    · exact le_rfl
    · exact le_rfl
    · exact h q hq
  unfold layer idle2 idle1
  iintro ⟨#He, Hf0, Hf1, ⟨⟨Hb0, Ha0⟩, ⟨Hb1, Ha1⟩⟩, HO, Hh, ⟨Hi0, Hi1, Hi2, Hi3⟩, Hu0, Hu1⟩ Hk
  -- chunk 0
  iapply (input_ok m K l 0 _ h') $$ [Hi0 HO]
  · isplitr; · iexact He
    isplitl [Hi0] <;> iassumption
  iintro ⟨Hi0, HO⟩
  iapply (first_ok m K l _ (Xin m l c 0)) $$ [Hf0 HO Hh]
  · isplitr; · iexact He
    isplitl [Hf0]; · iexact Hf0
    isplitl [HO] <;> iassumption
  iintro ⟨Hf0, Hw0, HO, Hh⟩
  iapply (w1Start_ok m l 2) $$ [Hf0 Hw0]
  · isplitl [Hf0] <;> iassumption
  iintro Hf0
  -- chunk 1
  iapply (input_ok m K l 1 _ h') $$ [Hi1 HO]
  · isplitr; · iexact He
    isplitl [Hi1] <;> iassumption
  iintro ⟨Hi1, HO⟩
  iapply (later_ok m K l 1 3 rfl _ (Xin m l c 1)) $$ [Hf1 HO Hh]
  · isplitr; · iexact He
    isplitl [Hf1]; · iexact Hf1
    isplitl [HO] <;> iassumption
  iintro ⟨Hf1, Hw1, HO, Hh⟩
  iapply (w1Start_ok m l 3) $$ [Hf1 Hw1]
  · isplitl [Hf1] <;> iassumption
  iintro Hf1
  -- chunk 2
  iapply (input_ok m K l 2 _ h') $$ [Hi2 HO]
  · isplitr; · iexact He
    isplitl [Hi2] <;> iassumption
  iintro ⟨Hi2, HO⟩
  iapply (later_ok m K l 2 0 rfl _ (Xin m l c 2)) $$ [Hf0 HO Hh]
  · isplitr; · iexact He
    isplitl [Hf0]; · iexact Hf0
    isplitl [HO] <;> iassumption
  iintro ⟨Hf0, Hw0, HO, Hh⟩
  iapply (w2Start_ok m l 0) $$ [Hb0 Ha0]
  · isplitl [Hb0] <;> iassumption
  iintro Hb0
  -- chunk 3
  iapply (input_ok m K l 3 _ h') $$ [Hi3 HO]
  · isplitr; · iexact He
    isplitl [Hi3] <;> iassumption
  iintro ⟨Hi3, HO⟩
  iapply (later_ok m K l 3 1 rfl _ (Xin m l c 3)) $$ [Hf1 HO Hh]
  · isplitr; · iexact He
    isplitl [Hf1]; · iexact Hf1
    isplitl [HO] <;> iassumption
  iintro ⟨Hf1, Hw1, HO, Hh⟩
  iapply (w2Start_ok m l 1) $$ [Hb1 Ha1]
  · isplitl [Hb1] <;> iassumption
  iintro Hb1
  -- the hidden rows rectified; two chunks of the projection
  iapply (rectify_ok _) $$ Hh
  iintro Hh
  iapply (project_ok m K l 0 2 rfl ((l, 1) :: (l, 2) :: (l, 3) :: ps)) $$ [Hb0 HO Hh Hu0]
  · isplitr; · iexact He
    isplitl [Hb0]; · iexact Hb0
    isplitl [HO]; · iexact HO
    isplitl [Hh]; · unfold hidden; iexact Hh
    iexact Hu0
  iintro ⟨Hb0, Ha0, HO, Hh, Hg0⟩
  iapply (w2Start_ok m l 2) $$ [Hb0 Ha0]
  · isplitl [Hb0] <;> iassumption
  iintro Hb0
  iapply (project_ok m K l 1 3 rfl ((l, 2) :: (l, 3) :: ps)) $$ [Hb1 HO Hh Hu1]
  · isplitr; · iexact He
    isplitl [Hb1]; · iexact Hb1
    isplitl [HO]; · iexact HO
    isplitl [Hh] <;> iassumption
  iintro ⟨Hb1, Ha1, HO, Hh, Hg1⟩
  iapply (w2Start_ok m l 3) $$ [Hb1 Ha1]
  · isplitl [Hb1] <;> iassumption
  iintro Hb1
  iapply Hk
  isplitl [Hf0 Hw0 Hf1 Hw1]
  · isplitl [Hf0 Hw0]
    · isplitl [Hf0] <;> iassumption
    isplitl [Hf1] <;> iassumption
  isplitl [Hb0]; · iexact Hb0
  isplitl [Hb1]; · iexact Hb1
  isplitl [HO]; · iexact HO
  isplitl [Hh]; · iexact Hh
  isplitl [Hi0 Hi1 Hi2 Hi3]
  · isplitl [Hi0]; · iexact Hi0
    isplitl [Hi1]; · iexact Hi1
    isplitl [Hi2] <;> iassumption
  isplitl [Hg0] <;> iassumption

/-- Its last two chunks, the next layer's first weights started between. -/
theorem tail_ok (l l' : Fin 3) (ps : List Blk) :
    iprop(env m K ∗ idle1 m c l' ∗ fly2 m c l 2 ∗ fly2 m c l 3 ∗ OW c ((l, 2) :: (l, 3) :: ps) ∗ hPts c (hidden (Xin m l c) (W1 m c l))
        ∗ unsent c (l, 2) ∗ unsent c (l, 3))
      ⊢ iprop((iprop(fly1 m c l' 0 ∗ fly1 m c l' 1 ∗ idle2 m c l ∗ OW c ps ∗ (∃ h, hPts c h) ∗ gone m c (l, 2) ∗ gone m c (l, 3)) -∗ WP c k Q)
          -∗ WP c (tail c l l' k) Q) := by
  unfold tail idle1 idle2
  iintro ⟨#He, ⟨⟨Hf0, Hw0⟩, ⟨Hf1, Hw1⟩⟩, Hb0, Hb1, HO, Hh, Hu0, Hu1⟩ Hk
  iapply (project_ok m K l 2 0 rfl ((l, 3) :: ps)) $$ [Hb0 HO Hh Hu0]
  · isplitr; · iexact He
    isplitl [Hb0]; · iexact Hb0
    isplitl [HO]; · iexact HO
    isplitl [Hh] <;> iassumption
  iintro ⟨Hb0, Ha0, HO, Hh, Hg0⟩
  iapply (w1Start_ok m l' 0) $$ [Hf0 Hw0]
  · isplitl [Hf0] <;> iassumption
  iintro Hf0
  iapply (project_ok m K l 3 1 rfl ps) $$ [Hb1 HO Hh Hu1]
  · isplitr; · iexact He
    isplitl [Hb1]; · iexact Hb1
    isplitl [HO]; · iexact HO
    isplitl [Hh] <;> iassumption
  iintro ⟨Hb1, Ha1, HO, Hh, Hg1⟩
  iapply (w1Start_ok m l' 1) $$ [Hf1 Hw1]
  · isplitl [Hf1] <;> iassumption
  iintro Hf1
  iapply Hk
  isplitl [Hf0]; · iexact Hf0
  isplitl [Hf1]; · iexact Hf1
  isplitl [Hb0 Ha0 Hb1 Ha1]
  · isplitl [Hb0 Ha0]
    · isplitl [Hb0] <;> iassumption
    isplitl [Hb1] <;> iassumption
  isplitl [HO]; · iexact HO
  isplitl [Hh]; · iexists _; iexact Hh
  isplitl [Hg0] <;> iassumption

/-- A block of the result. -/
theorem emit_ok (j : Fin 4) (f : (cc0_stg1_0 : Ref sig .tc).ty.Contents (Elt F)) :
    iprop(env m K ∗ kept m c (2, j) ∗ coming c (2, j) ∗ OW c [] ∗ oPts c f)
      ⊢ iprop((iprop(kept m c (2, j) ∗ come m c (2, j) ∗ OW c [] ∗ oPts c ((oM.access (xR j) : View sig .tc _ _ _).write (Elt F) f (RV m 2 c j) Finset.univ)) -∗ WP c k Q)
          -∗ WP c (emit j k) Q) := by
  unfold emit
  iintro ⟨#He, Hs, Hr, HO, Ho⟩ Hk
  iapply (reduced_ok m K 2 j [] (fun q hq => absurd hq List.not_mem_nil)) $$ [Hs Hr HO]
  · isplitr; · iexact He
    isplitl [Hs]; · iexact Hs
    isplitl [Hr] <;> iassumption
  iintro ⟨Hs, Hr, HO⟩
  iapply (loadO_ok j) $$ Ho; iintro Ho
  iapply (storeO_ok j) $$ Ho; iintro Ho
  iapply Hk
  isplitl [Hs]; · iexact Hs
  isplitl [Hr]; · iexact Hr
  isplitl [HO] <;> iassumption

end Cert.KernelIdeal.Body

end
-- ==== Proof.Blocks.lean ====
/- The buffers cut into the pieces the body holds apart and joined again: the send and landing blocks, the weight
   slots, the halves of the weight arrays, the read tokens of the input; the result from its four blocks. -/
module

public import proofs.«01_k».proof.Proof.Layer

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin2 bigSep_fin3 bigSep_fin4)
open Idealize.ShloMosaic.Transfers (shareTok shareDrop Flight)

variable {F : FTy → Type} [FloatOps F]

local notation "𝕄" => MT nD τ sig Unit (Elt F) ℕ UU ℕ

variable (m : (ℓ : Loc nD τ sig) → Buf (Elt F) ℓ) (c : Dev nD)

/-! ## The twelve blocks listed -/

theorem twelve (Φ : Blk → sProp 𝕄) : bigSep Finset.univ Φ
    = iprop((Φ (0, 0) ∗ Φ (0, 1) ∗ Φ (0, 2) ∗ Φ (0, 3)) ∗ (Φ (1, 0) ∗ Φ (1, 1) ∗ Φ (1, 2) ∗ Φ (1, 3)) ∗ (Φ (2, 0) ∗ Φ (2, 1) ∗ Φ (2, 2) ∗ Φ (2, 3))) := by
  rw [bigSep_univ_prod, bigSep_fin3, bigSep_fin4, bigSep_fin4, bigSep_fin4]

/-! ## Which elements a piece has -/

theorem mem_send (p : Blk) (i : S3x4x64x512.Idx) : i ∈ (sendB p.1 p.2).view.set ↔ ((i 0).val = p.1.val ∧ (i 1).val = p.2.val) := by
  have h : (sendB p.1 p.2).view.set = (sendR p.1 p.2).set := (Memref.set_view_squeeze _ _).trans (View.set_slice_whole _ _)
  rw [h, Rect.mem_set_unit]
  have h2 := (i 2).isLt
  have h3 := (i 3).isLt
  constructor
  · intro h
    have h0 : p.1.val ≤ (i 0).val ∧ (i 0).val < p.1.val + 1 := h 0
    have h1 : p.2.val ≤ (i 1).val ∧ (i 1).val < p.2.val + 1 := h 1
    omega
  · rintro ⟨h0, h1⟩ a
    match a with
    | 0 => show p.1.val ≤ (i 0).val ∧ (i 0).val < p.1.val + 1; omega
    | 1 => show p.2.val ≤ (i 1).val ∧ (i 1).val < p.2.val + 1; omega
    | 2 => exact ⟨Nat.zero_le _, lt_of_lt_of_eq h2 (Nat.zero_add _).symm⟩
    | 3 => exact ⟨Nat.zero_le _, lt_of_lt_of_eq h3 (Nat.zero_add _).symm⟩

theorem mem_recv (p : Blk) (e : Fin 3) (i : S3x4x3x64x512.Idx) :
    i ∈ (recvB p.1 p.2 e).view.set ↔ ((i 0).val = p.1.val ∧ (i 1).val = p.2.val ∧ (i 2).val = e.val) := by
  have h : (recvB p.1 p.2 e).view.set = (recvR p.1 p.2 e).set := (Memref.set_view_squeeze _ _).trans (View.set_slice_whole _ _)
  rw [h, Rect.mem_set_unit]
  have h3 := (i 3).isLt
  have h4 := (i 4).isLt
  constructor
  · intro h
    have h0 : p.1.val ≤ (i 0).val ∧ (i 0).val < p.1.val + 1 := h 0
    have h1 : p.2.val ≤ (i 1).val ∧ (i 1).val < p.2.val + 1 := h 1
    have h2 : e.val ≤ (i 2).val ∧ (i 2).val < e.val + 1 := h 2
    omega
  · rintro ⟨h0, h1, h2⟩ a
    match a with
    | 0 => show p.1.val ≤ (i 0).val ∧ (i 0).val < p.1.val + 1; omega
    | 1 => show p.2.val ≤ (i 1).val ∧ (i 1).val < p.2.val + 1; omega
    | 2 => show e.val ≤ (i 2).val ∧ (i 2).val < e.val + 1; omega
    | 3 => exact ⟨Nat.zero_le _, lt_of_lt_of_eq h3 (Nat.zero_add _).symm⟩
    | 4 => exact ⟨Nat.zero_le _, lt_of_lt_of_eq h4 (Nat.zero_add _).symm⟩

theorem mem_b1 (j : Fin 4) (i : S2x512x4096.Idx) : i ∈ (b1Dst j).view.set ↔ (i 0).val = j.val % 2 := by
  have h : (b1Dst j).view.set = (b1R j).set := (Memref.set_view_squeeze _ _).trans (View.set_slice_whole _ _)
  rw [h, Rect.mem_set_unit]
  have h1 := (i 1).isLt
  have h2 := (i 2).isLt
  constructor
  · intro h
    have h0 : j.val % 2 ≤ (i 0).val ∧ (i 0).val < j.val % 2 + 1 := h 0
    omega
  · intro h0 a
    match a with
    | 0 => show j.val % 2 ≤ (i 0).val ∧ (i 0).val < j.val % 2 + 1; omega
    | 1 => exact ⟨Nat.zero_le _, lt_of_lt_of_eq h1 (Nat.zero_add _).symm⟩
    | 2 => exact ⟨Nat.zero_le _, lt_of_lt_of_eq h2 (Nat.zero_add _).symm⟩

theorem mem_b2 (j : Fin 4) (i : S2x4096x512.Idx) : i ∈ (b2Dst j).view.set ↔ (i 0).val = j.val % 2 := by
  have h : (b2Dst j).view.set = (b2R j).set := (Memref.set_view_squeeze _ _).trans (View.set_slice_whole _ _)
  rw [h, Rect.mem_set_unit]
  have h1 := (i 1).isLt
  have h2 := (i 2).isLt
  constructor
  · intro h
    have h0 : j.val % 2 ≤ (i 0).val ∧ (i 0).val < j.val % 2 + 1 := h 0
    omega
  · intro h0 a
    match a with
    | 0 => show j.val % 2 ≤ (i 0).val ∧ (i 0).val < j.val % 2 + 1; omega
    | 1 => exact ⟨Nat.zero_le _, lt_of_lt_of_eq h1 (Nat.zero_add _).symm⟩
    | 2 => exact ⟨Nat.zero_le _, lt_of_lt_of_eq h2 (Nat.zero_add _).symm⟩

/-! ## A family of pieces with disjoint, covering elements -/

theorem send_disj (p p' : Blk) (h : p ≠ p') : Disjoint (sendB p.1 p.2).view.set (sendB p'.1 p'.2).view.set := by
  refine Finset.disjoint_left.mpr fun i hi hi' => h ?_
  have a := (mem_send p i).mp hi
  have b := (mem_send p' i).mp hi'
  exact Prod.ext (Fin.ext (a.1.symm.trans b.1)) (Fin.ext (a.2.symm.trans b.2))
theorem send_cover : Finset.univ.biUnion (fun p : Blk => (sendB p.1 p.2).view.set) = (Finset.univ : Finset S3x4x64x512.Idx) := by
  ext i
  simp only [Finset.mem_biUnion, Finset.mem_univ, true_and, iff_true]
  exact ⟨((i 0 : Fin 3), (i 1 : Fin 4)), (mem_send _ i).mpr ⟨rfl, rfl⟩⟩

theorem recv_disj (x x' : Fin 3 × Blk) (h : x ≠ x') : Disjoint (recvB x.2.1 x.2.2 x.1).view.set (recvB x'.2.1 x'.2.2 x'.1).view.set := by
  refine Finset.disjoint_left.mpr fun i hi hi' => h ?_
  have a := (mem_recv x.2 x.1 i).mp hi
  have b := (mem_recv x'.2 x'.1 i).mp hi'
  exact Prod.ext (Fin.ext (a.2.2.symm.trans b.2.2)) (Prod.ext (Fin.ext (a.1.symm.trans b.1)) (Fin.ext (a.2.1.symm.trans b.2.1)))
theorem recv_cover : Finset.univ.biUnion (fun x : Fin 3 × Blk => (recvB x.2.1 x.2.2 x.1).view.set) = (Finset.univ : Finset S3x4x3x64x512.Idx) := by
  ext i
  simp only [Finset.mem_biUnion, Finset.mem_univ, true_and, iff_true]
  exact ⟨((i 2 : Fin 3), ((i 0 : Fin 3), (i 1 : Fin 4))), (mem_recv _ _ i).mpr ⟨rfl, rfl, rfl⟩⟩

/-- The chunk standing for a slot. -/
abbrev slotOf (s : Fin 2) : Fin 4 := ⟨s.val, by omega⟩
theorem b1_disj (s s' : Fin 2) (h : s ≠ s') : Disjoint (b1Dst (slotOf s)).view.set (b1Dst (slotOf s')).view.set := by
  refine Finset.disjoint_left.mpr fun i hi hi' => h (Fin.ext ?_)
  have a : _ = s.val % 2 := (mem_b1 (slotOf s) i).mp hi
  have b : _ = s'.val % 2 := (mem_b1 (slotOf s') i).mp hi'
  omega
theorem b1_cover : Finset.univ.biUnion (fun s : Fin 2 => (b1Dst (slotOf s)).view.set) = (Finset.univ : Finset S2x512x4096.Idx) := by
  ext i
  simp only [Finset.mem_biUnion, Finset.mem_univ, true_and, iff_true]
  exact ⟨(i 0 : Fin 2), (mem_b1 _ i).mpr (Nat.mod_eq_of_lt (i 0).isLt).symm⟩
theorem b2_disj (s s' : Fin 2) (h : s ≠ s') : Disjoint (b2Dst (slotOf s)).view.set (b2Dst (slotOf s')).view.set := by
  refine Finset.disjoint_left.mpr fun i hi hi' => h (Fin.ext ?_)
  have a : _ = s.val % 2 := (mem_b2 (slotOf s) i).mp hi
  have b : _ = s'.val % 2 := (mem_b2 (slotOf s') i).mp hi'
  omega
theorem b2_cover : Finset.univ.biUnion (fun s : Fin 2 => (b2Dst (slotOf s)).view.set) = (Finset.univ : Finset S2x4096x512.Idx) := by
  ext i
  simp only [Finset.mem_biUnion, Finset.mem_univ, true_and, iff_true]
  exact ⟨(i 0 : Fin 2), (mem_b2 _ i).mpr (Nat.mod_eq_of_lt (i 0).isLt).symm⟩

/-! ## Cutting and joining -/

theorem send_cut (f : Buf (Elt F) ((c : Thread nD τ).loc cc0_scratch3)) :
    (((c : Thread nD τ).loc cc0_scratch3) ↦{fullShare} f : sProp 𝕄) ⊢ bigSep Finset.univ fun p : Blk => iprop(∃ f, sPts c p fullShare f) := by
  refine (Entails.of_eq (Ring.pointsTo_blocks (ℓ := (c : Thread nD τ).loc cc0_scratch3) (fun p : Blk => (sendB p.1 p.2).view.set) send_disj send_cover f)).trans
    (bigSep_mono fun p _ => ?_)
  unfold sPts
  exact exists_intro (Φ := fun f => iprop((sendB p.1 p.2).view.loc (c : Thread nD τ) ↦[(sendB p.1 p.2).view.set]{fullShare} f)) f
theorem send_join :
    (bigSep Finset.univ fun p : Blk => iprop(∃ f, sPts c p fullShare f) : sProp 𝕄) ⊢ iprop(∃ f : Buf (Elt F) ((c : Thread nD τ).loc cc0_scratch3), ((c : Thread nD τ).loc cc0_scratch3) ↦{fullShare} f) :=
  Ring.pointsTo_blocks_join_exists (ℓ := (c : Thread nD τ).loc cc0_scratch3) (fun p : Blk => (sendB p.1 p.2).view.set) send_disj send_cover
    ((sendB 0 0).view.junk)

theorem recv_cut (f : Buf (Elt F) ((c : Thread nD τ).loc cc0_scratch4)) :
    (((c : Thread nD τ).loc cc0_scratch4) ↦{fullShare} f : sProp 𝕄) ⊢ iprop(landing c 0 ∗ landing c 1 ∗ landing c 2) := by
  refine (Entails.of_eq (Ring.pointsTo_blocks (ℓ := (c : Thread nD τ).loc cc0_scratch4) (fun x : Fin 3 × Blk => (recvB x.2.1 x.2.2 x.1).view.set) recv_disj recv_cover f)).trans ?_
  rw [bigSep_univ_prod]
  refine (bigSep_mono fun e _ => ?_ : _ ⊢ bigSep Finset.univ fun e : Fin 3 => landing c e).trans (Entails.of_eq (bigSep_fin3 _))
  unfold landing
  refine bigSep_mono fun p _ => ?_
  unfold rPts
  exact exists_intro (Φ := fun f => iprop((recvB p.1 p.2 e).view.loc (c : Thread nD τ) ↦[(recvB p.1 p.2 e).view.set]{fullShare} f)) f
theorem recv_join :
    (iprop(landing c 0 ∗ landing c 1 ∗ landing c 2) : sProp 𝕄) ⊢ iprop(∃ f : Buf (Elt F) ((c : Thread nD τ).loc cc0_scratch4), ((c : Thread nD τ).loc cc0_scratch4) ↦{fullShare} f) := by
  refine BI.Entails.trans ?_ (Ring.pointsTo_blocks_join_exists (ℓ := (c : Thread nD τ).loc cc0_scratch4) (fun x : Fin 3 × Blk => (recvB x.2.1 x.2.2 x.1).view.set) recv_disj recv_cover
    ((recvB 0 0 0).view.junk))
  rw [bigSep_univ_prod]
  refine (Entails.of_eq (bigSep_fin3 fun e : Fin 3 => landing c e).symm).trans (bigSep_mono fun e _ => ?_)
  unfold landing rPts
  exact BI.Entails.refl _

theorem b1_cut (f : Buf (Elt F) ((c : Thread nD τ).loc cc0_scratch1)) :
    (((c : Thread nD τ).loc cc0_scratch1) ↦{fullShare} f : sProp 𝕄) ⊢ iprop((∃ f, b1Pts c 0 f) ∗ ∃ f, b1Pts c 1 f) := by
  refine (Entails.of_eq (Ring.pointsTo_blocks (ℓ := (c : Thread nD τ).loc cc0_scratch1) (fun s : Fin 2 => (b1Dst (slotOf s)).view.set) b1_disj b1_cover f)).trans ?_
  rw [bigSep_fin2]
  unfold b1Pts
  iintro ⟨H0, H1⟩
  isplitl [H0]; · iexists f; iexact H0
  iexists f; iexact H1
theorem b1_join :
    (iprop((∃ f, b1Pts c 0 f) ∗ ∃ f, b1Pts c 1 f) : sProp 𝕄) ⊢ iprop(∃ f : Buf (Elt F) ((c : Thread nD τ).loc cc0_scratch1), ((c : Thread nD τ).loc cc0_scratch1) ↦{fullShare} f) := by
  refine BI.Entails.trans ?_ (Ring.pointsTo_blocks_join_exists (ℓ := (c : Thread nD τ).loc cc0_scratch1) (fun s : Fin 2 => (b1Dst (slotOf s)).view.set) b1_disj b1_cover
    ((b1Dst 0).view.junk))
  rw [bigSep_fin2]
  unfold b1Pts
  exact BI.Entails.refl _
theorem b2_cut (f : Buf (Elt F) ((c : Thread nD τ).loc cc0_scratch2)) :
    (((c : Thread nD τ).loc cc0_scratch2) ↦{fullShare} f : sProp 𝕄) ⊢ iprop((∃ f, b2Pts c 0 f) ∗ ∃ f, b2Pts c 1 f) := by
  refine (Entails.of_eq (Ring.pointsTo_blocks (ℓ := (c : Thread nD τ).loc cc0_scratch2) (fun s : Fin 2 => (b2Dst (slotOf s)).view.set) b2_disj b2_cover f)).trans ?_
  rw [bigSep_fin2]
  unfold b2Pts
  iintro ⟨H0, H1⟩
  isplitl [H0]; · iexists f; iexact H0
  iexists f; iexact H1
theorem b2_join :
    (iprop((∃ f, b2Pts c 0 f) ∗ ∃ f, b2Pts c 1 f) : sProp 𝕄) ⊢ iprop(∃ f : Buf (Elt F) ((c : Thread nD τ).loc cc0_scratch2), ((c : Thread nD τ).loc cc0_scratch2) ↦{fullShare} f) := by
  refine BI.Entails.trans ?_ (Ring.pointsTo_blocks_join_exists (ℓ := (c : Thread nD τ).loc cc0_scratch2) (fun s : Fin 2 => (b2Dst (slotOf s)).view.set) b2_disj b2_cover
    ((b2Dst 0).view.junk))
  rw [bigSep_fin2]
  unfold b2Pts
  exact BI.Entails.refl _

/-- A weight array in the two halves its slots' copies read under. -/
def whole1 (l : Fin 3) : sProp 𝕄 := (winM l).view.loc (c : Thread nD τ) ↦{fullShare} win m c l
def whole2 (l : Fin 3) : sProp 𝕄 := (woutM l).view.loc (c : Thread nD τ) ↦{fullShare} wout m c l
theorem arr1_cut (l : Fin 3) : whole1 m c l ⊢ iprop(arr1 m c l 0 ∗ arr1 m c l 1) :=
  (pointsTo_share (PosShare.mem_left_op_right _)).1
theorem arr1_join (l : Fin 3) : iprop(arr1 m c l 0 ∗ arr1 m c l 1) ⊢ whole1 m c l :=
  (pointsTo_share (PosShare.mem_left_op_right _)).2
theorem arr2_cut (l : Fin 3) : whole2 m c l ⊢ iprop(arr2 m c l 0 ∗ arr2 m c l 1) :=
  (pointsTo_share (PosShare.mem_left_op_right _)).1
theorem arr2_join (l : Fin 3) : iprop(arr2 m c l 0 ∗ arr2 m c l 1) ⊢ whole2 m c l :=
  (pointsTo_share (PosShare.mem_left_op_right _)).2

/-- The staged `x` in what is kept and four read tokens. -/
def xRest : sProp 𝕄 := ((c : Thread nD τ).loc cc0_stg0_0) ↦{shareDrop fullShare 4} xstg m c
theorem x_cut : xPts m c ⊢ iprop(xRest m c ∗ xTok m c 0 ∗ xTok m c 1 ∗ xTok m c 2 ∗ xTok m c 3) := by
  unfold xPts xRest xTok
  refine (Transfers.pointsTo_toks_split fullShare 4).trans ?_
  rw [bigSep_fin4]
theorem x_join : iprop(xRest m c ∗ xTok m c 0 ∗ xTok m c 1 ∗ xTok m c 2 ∗ xTok m c 3) ⊢ xPts m c := by
  unfold xPts xRest xTok
  refine BI.Entails.trans ?_ (Transfers.pointsTo_toks_join fullShare 4)
  rw [bigSep_fin4]
  exact BI.Entails.refl _

/-! ## The result from its four blocks -/

/-- The column block of an element and its place there. -/
def outJ (i : S64x2048.Idx) : Fin 4 := ⟨(i 1).val / 512, by have := (i 1).isLt; exact (Nat.div_lt_iff_lt_mul (by decide)).2 this⟩
def outI (i : S64x2048.Idx) : S64x512.Idx :=
  Fin.cons (⟨(i 0).val, (i 0).isLt⟩ : Fin 64) (Fin.cons (⟨(i 1).val % 512, Nat.mod_lt _ (by decide)⟩ : Fin 512) fun a => a.elim0)
theorem outAt_eq (i : S64x2048.Idx) : outAt m c i = RV m 2 c (outJ i) (outI i) := rfl

theorem out_emb (i : S64x2048.Idx) : (oM.access (xR (outJ i)) : View sig .tc _ _ _).emb (outI i) = i := by
  funext a
  refine Fin.ext ?_
  have hd : 512 * ((i 1).val / 512) + (i 1).val % 512 = (i 1).val := Nat.div_add_mod _ _
  match a with
  | 0 =>
    show 0 + 1 * (i 0).val = (i 0).val
    omega
  | 1 =>
    show 512 * ((i 1).val / 512) + 1 * ((i 1).val % 512) = (i 1).val
    omega

theorem out_here (f : S64x2048.Idx → Elt F .f32) (v : FVec F S64x512 .f32) (i : S64x2048.Idx) :
    (oM.access (xR (outJ i)) : View sig .tc _ _ _).write (Elt F) f v Finset.univ i = v (outI i) := by
  have h := View.write_emb_of_mem (v := (oM.access (xR (outJ i)) : View sig .tc _ _ _)) (Val := Elt F) f v (Finset.mem_univ (outI i))
  rw [out_emb] at h
  exact h

theorem out_away (j : Fin 4) (f : S64x2048.Idx → Elt F .f32) (v : FVec F S64x512 .f32) (i : S64x2048.Idx) (h : outJ i ≠ j) :
    (oM.access (xR j) : View sig .tc _ _ _).write (Elt F) f v Finset.univ i = f i := by
  refine View.write_of_not_mem _ _ _ fun hi => h ?_
  have hs : (oM.access (xR j) : View sig .tc _ _ _).setOn Finset.univ = (xR j).set := View.set_slice_whole _ _
  rw [hs, Rect.mem_set_unit] at hi
  have h1 : 512 * j.val ≤ (i 1).val ∧ (i 1).val < 512 * j.val + 512 := hi 1
  refine Fin.ext ?_
  show (i 1).val / 512 = j.val
  omega

theorem emitted (f : S64x2048.Idx → Elt F .f32) :
    (oM.access (xR 3) : View sig .tc _ _ _).write (Elt F)
      ((oM.access (xR 2) : View sig .tc _ _ _).write (Elt F)
        ((oM.access (xR 1) : View sig .tc _ _ _).write (Elt F)
          ((oM.access (xR 0) : View sig .tc _ _ _).write (Elt F) f (RV m 2 c 0) Finset.univ) (RV m 2 c 1) Finset.univ)
        (RV m 2 c 2) Finset.univ) (RV m 2 c 3) Finset.univ = outAt m c := by
  funext i
  rw [outAt_eq]
  have key (j : Fin 4) (h : outJ i = j) (g : S64x2048.Idx → Elt F .f32) (X : Fin 4 → FVec F S64x512 .f32) :
      (oM.access (xR j) : View sig .tc _ _ _).write (Elt F) g (X j) Finset.univ i = X (outJ i) (outI i) := by
    subst h; exact out_here g _ i
  rcases (by decide : ∀ j : Fin 4, j = 0 ∨ j = 1 ∨ j = 2 ∨ j = 3) (outJ i) with h | h | h | h
  · rw [out_away 3 _ _ i (by rw [h]; decide), out_away 2 _ _ i (by rw [h]; decide), out_away 1 _ _ i (by rw [h]; decide)]
    exact key 0 h _ (RV m 2 c)
  · rw [out_away 3 _ _ i (by rw [h]; decide), out_away 2 _ _ i (by rw [h]; decide)]
    exact key 1 h _ (RV m 2 c)
  · rw [out_away 3 _ _ i (by rw [h]; decide)]
    exact key 2 h _ (RV m 2 c)
  · exact key 3 h _ (RV m 2 c)

end Cert.KernelIdeal.Body

end
-- ==== Proof.Run.lean ====
/- The whole body at a symbolic device: the handshake, three layers each on the layer before's totals, the result, the
   drained sends. -/
module

public import proofs.«01_k».proof.Proof.Blocks

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin2 bigSep_fin3 bigSep_fin4)
open Idealize.ShloMosaic.Transfers (shareTok shareDrop Flight)

variable {F : FTy → Type} [FloatOps F]

local notation "𝕄" => MT nD τ sig Unit (Elt F) ℕ UU ℕ

variable (m : (ℓ : Loc nD τ sig) → Buf (Elt F) ℓ) (K : Dev nD × CellIx → ℕ)
variable (c : Dev nD)

/-! ## A layer's four blocks together -/

def four (Φ : Blk → sProp 𝕄) (l : Fin 3) : sProp 𝕄 := iprop(Φ (l, 0) ∗ Φ (l, 1) ∗ Φ (l, 2) ∗ Φ (l, 3))
theorem layers (Φ : Blk → sProp 𝕄) : bigSep Finset.univ Φ = iprop(four Φ 0 ∗ four Φ 1 ∗ four Φ 2) := twelve Φ

/-- A block's three transfers under way. -/
def sents (p : Blk) : sProp 𝕄 := iprop(sent c p 0 ∗ sent c p 1 ∗ sent c p 2)
/-- Its duties' tokens. -/
def dues (p : Blk) (e : Fin 3) : sProp 𝕄 := iprop(dutyTok ER (sCell c p e) 0 (0 : Fin 3) ∗ dutyTok ER (rCell (peer c e) p e) 0 (0 : Fin 3))
def due (p : Blk) : sProp 𝕄 := iprop(dues c p 0 ∗ dues c p 1 ∗ dues c p 2)

/-- The blocks to send, the peers' landing blocks and the tokens, together. -/
theorem unsent_all :
    iprop((bigSep Finset.univ fun p : Blk => iprop(∃ f, sPts c p fullShare f)) ∗ (barPay c 0 ∗ barPay c 1 ∗ barPay c 2) ∗ bigSep Finset.univ (due c))
      ⊢ (bigSep Finset.univ (unsent c) : sProp 𝕄) := by
  unfold barPay
  rw [← bigSep_sep', ← bigSep_sep', ← bigSep_sep', ← bigSep_sep']
  refine bigSep_mono fun p _ => ?_
  show (_ : sProp 𝕄) ⊢ _
  unfold due dues unsent toSend
  iintro ⟨Hs, ⟨Hr0, Hr1, Hr2⟩, ⟨Ha0, Hb0⟩, ⟨Ha1, Hb1⟩, Ha2, Hb2⟩
  isplitl [Hs]; · iexact Hs
  isplitl [Hr0 Ha0 Hb0]
  · isplitl [Ha0]; · iexact Ha0
    isplitl [Hb0] <;> iassumption
  isplitl [Hr1 Ha1 Hb1]
  · isplitl [Ha1]; · iexact Ha1
    isplitl [Hb1] <;> iassumption
  isplitl [Ha2]; · iexact Ha2
  isplitl [Hb2] <;> iassumption

/-- Four input chunks. -/
def needs (l : Fin 3) : sProp 𝕄 := iprop(inNeed m c l 0 ∗ inNeed m c l 1 ∗ inNeed m c l 2 ∗ inNeed m c l 3)
def lefts (l : Fin 3) : sProp 𝕄 := iprop(inLeft m c l 0 ∗ inLeft m c l 1 ∗ inLeft m c l 2 ∗ inLeft m c l 3)

theorem needs_x : needs m c 0 = iprop(xTok m c 0 ∗ xTok m c 1 ∗ xTok m c 2 ∗ xTok m c 3) := rfl
theorem lefts_x : lefts m c 0 = iprop(xTok m c 0 ∗ xTok m c 1 ∗ xTok m c 2 ∗ xTok m c 3) := rfl

/-- A layer's blocks, sent, with their landing blocks to come, are the next layer's input; -/
theorem needs_of (l l' : Fin 3) (h : ∀ j, inNeed m c l' j = iprop(kept m c (l, j) ∗ coming c (l, j))) :
    iprop(four (gone m c) l ∗ four (coming c) l) ⊢ iprop(needs m c l' ∗ four (sents c) l) := by
  unfold four needs gone sents
  rw [h, h, h, h]
  iintro ⟨⟨⟨K0, S0⟩, ⟨K1, S1⟩, ⟨K2, S2⟩, ⟨K3, S3⟩⟩, C0, C1, C2, C3⟩
  isplitl [K0 K1 K2 K3 C0 C1 C2 C3]
  · isplitl [K0 C0]; · isplitl [K0] <;> iassumption
    isplitl [K1 C1]; · isplitl [K1] <;> iassumption
    isplitl [K2 C2]; · isplitl [K2] <;> iassumption
    isplitl [K3] <;> iassumption
  isplitl [S0]; · iexact S0
  isplitl [S1]; · iexact S1
  isplitl [S2] <;> iassumption
/-- read, they are sent blocks again and landed ones. -/
theorem lefts_to (l l' : Fin 3) (h : ∀ j, inLeft m c l' j = iprop(kept m c (l, j) ∗ come m c (l, j))) :
    iprop(lefts m c l' ∗ four (sents c) l) ⊢ iprop(four (gone m c) l ∗ four (come m c) l) := by
  unfold four lefts gone sents
  rw [h, h, h, h]
  iintro ⟨⟨⟨K0, C0⟩, ⟨K1, C1⟩, ⟨K2, C2⟩, ⟨K3, C3⟩⟩, S0, S1, S2, S3⟩
  isplitl [K0 K1 K2 K3 S0 S1 S2 S3]
  · isplitl [K0 S0]; · isplitl [K0] <;> iassumption
    isplitl [K1 S1]; · isplitl [K1] <;> iassumption
    isplitl [K2 S2]; · isplitl [K2] <;> iassumption
    isplitl [K3] <;> iassumption
  isplitl [C0]; · iexact C0
  isplitl [C1]; · iexact C1
  isplitl [C2] <;> iassumption

/-! ## Weight slots and arrays -/

def frees1 : sProp 𝕄 := iprop(free1 c 0 ∗ free1 c 1)
def frees2 : sProp 𝕄 := iprop(free2 c 0 ∗ free2 c 1)
theorem idle1_of (l : Fin 3) : iprop(frees1 c ∗ whole1 m c l) ⊢ idle1 m c l := by
  unfold frees1 idle1
  iintro ⟨⟨A, B⟩, W⟩
  ihave H := (arr1_cut m c l) $$ W
  icases H with ⟨C, D⟩
  isplitl [A C]
  · isplitl [A] <;> iassumption
  isplitl [B] <;> iassumption
theorem idle1_to (l : Fin 3) : idle1 m c l ⊢ iprop(frees1 c ∗ whole1 m c l) := by
  unfold frees1 idle1
  iintro ⟨⟨A, C⟩, B, D⟩
  isplitl [A B]
  · isplitl [A] <;> iassumption
  iapply (arr1_join m c l)
  isplitl [C] <;> iassumption
theorem idle2_of (l : Fin 3) : iprop(frees2 c ∗ whole2 m c l) ⊢ idle2 m c l := by
  unfold frees2 idle2
  iintro ⟨⟨A, B⟩, W⟩
  ihave H := (arr2_cut m c l) $$ W
  icases H with ⟨C, D⟩
  isplitl [A C]
  · isplitl [A] <;> iassumption
  isplitl [B] <;> iassumption
theorem idle2_to (l : Fin 3) : idle2 m c l ⊢ iprop(frees2 c ∗ whole2 m c l) := by
  unfold frees2 idle2
  iintro ⟨⟨A, C⟩, B, D⟩
  isplitl [A B]
  · isplitl [A] <;> iassumption
  iapply (arr2_join m c l)
  isplitl [C] <;> iassumption

/-- A layer's first two slices on their way. -/
def flies (l : Fin 3) : sProp 𝕄 := iprop(fly1 m c l 0 ∗ fly1 m c l 1)

variable {c}
variable {Q : PUnit → sProp (MT nD τ sig Unit (Elt F) ℕ UU ℕ)}
variable {k : KP F}

/-! ## The layers -/

theorem open_ok (l : Fin 3) :
    iprop(frees1 c ∗ whole1 m c l) ⊢ iprop((flies m c l -∗ WP c k Q) -∗ WP c (w1Start l 0 <| w1Start l 1 k) Q) := by
  iintro H Hk
  ihave H := (idle1_of m c l) $$ H
  unfold idle1 flies
  icases H with ⟨H0, H1⟩
  iapply (w1Start_ok m l 0) $$ H0
  iintro H0
  iapply (w1Start_ok m l 1) $$ H1
  iintro H1
  iapply Hk
  isplitl [H0] <;> iassumption

/-- A layer with a next one. -/
theorem round_ok (l l' : Fin 3) (ps : List Blk) (h : ∀ q ∈ ps, l ≤ q.1) :
    iprop(env m K ∗ flies m c l ∗ (frees2 c ∗ whole2 m c l) ∗ whole1 m c l' ∗ OW c ((l, 0) :: (l, 1) :: (l, 2) :: (l, 3) :: ps) ∗ (∃ h, hPts c h)
        ∗ needs m c l ∗ four (unsent c) l)
      ⊢ iprop((iprop(flies m c l' ∗ (frees2 c ∗ whole2 m c l) ∗ whole1 m c l ∗ OW c ps ∗ (∃ h, hPts c h) ∗ lefts m c l ∗ four (gone m c) l) -∗ WP c k Q)
          -∗ WP c (layer c l <| tail c l l' k) Q) := by
  unfold flies needs lefts four
  iintro ⟨#He, ⟨F0, F1⟩, H2, W1', HO, Hh, Hn, U0, U1, U2, U3⟩ Hk
  ihave H2 := (idle2_of m c l) $$ H2
  iapply (layer_ok m K l ps h) $$ [F0 F1 H2 HO Hh Hn U0 U1]
  · isplitr; · iexact He
    isplitl [F0]; · iexact F0
    isplitl [F1]; · iexact F1
    isplitl [H2]; · iexact H2
    isplitl [HO]; · iexact HO
    isplitl [Hh]; · iexact Hh
    isplitl [Hn]; · iexact Hn
    isplitl [U0] <;> iassumption
  iintro ⟨H1, F2, F3, HO, Hh, Hn, G0, G1⟩
  ihave H1 := (idle1_to m c l) $$ H1
  icases H1 with ⟨H1, W1⟩
  ihave H1 := (idle1_of m c l') $$ [H1 W1']
  · isplitl [H1] <;> iassumption
  iapply (tail_ok m K l l' ps) $$ [H1 F2 F3 HO Hh U2 U3]
  · isplitr; · iexact He
    isplitl [H1]; · iexact H1
    isplitl [F2]; · iexact F2
    isplitl [F3]; · iexact F3
    isplitl [HO]; · iexact HO
    isplitl [Hh]; · iexact Hh
    isplitl [U2] <;> iassumption
  iintro ⟨F0, F1, H2, HO, Hh, G2, G3⟩
  ihave H2 := (idle2_to m c l) $$ H2
  iapply Hk
  isplitl [F0 F1]
  · isplitl [F0] <;> iassumption
  isplitl [H2]; · iexact H2
  isplitl [W1]; · iexact W1
  isplitl [HO]; · iexact HO
  isplitl [Hh]; · iexact Hh
  isplitl [Hn]; · iexact Hn
  isplitl [G0]; · iexact G0
  isplitl [G1]; · iexact G1
  isplitl [G2] <;> iassumption

/-- The last. -/
theorem last_ok (l : Fin 3) (ps : List Blk) (h : ∀ q ∈ ps, l ≤ q.1) :
    iprop(env m K ∗ flies m c l ∗ (frees2 c ∗ whole2 m c l) ∗ OW c ((l, 0) :: (l, 1) :: (l, 2) :: (l, 3) :: ps) ∗ (∃ h, hPts c h)
        ∗ needs m c l ∗ four (unsent c) l)
      ⊢ iprop((iprop((frees1 c ∗ whole1 m c l) ∗ (frees2 c ∗ whole2 m c l) ∗ OW c ps ∗ (∃ h, hPts c h) ∗ lefts m c l ∗ four (gone m c) l) -∗ WP c k Q)
          -∗ WP c (layer c l <| project c l 2 <| project c l 3 k) Q) := by
  unfold flies needs lefts four
  iintro ⟨#He, ⟨F0, F1⟩, H2, HO, Hh, Hn, U0, U1, U2, U3⟩ Hk
  ihave H2 := (idle2_of m c l) $$ H2
  iapply (layer_ok m K l ps h) $$ [F0 F1 H2 HO Hh Hn U0 U1]
  · isplitr; · iexact He
    isplitl [F0]; · iexact F0
    isplitl [F1]; · iexact F1
    isplitl [H2]; · iexact H2
    isplitl [HO]; · iexact HO
    isplitl [Hh]; · iexact Hh
    isplitl [Hn]; · iexact Hn
    isplitl [U0] <;> iassumption
  iintro ⟨H1, F2, F3, HO, Hh, Hn, G0, G1⟩
  ihave H1 := (idle1_to m c l) $$ H1
  iapply (project_ok m K l 2 0 rfl ((l, 3) :: ps)) $$ [F2 HO Hh U2]
  · isplitr; · iexact He
    isplitl [F2]; · iexact F2
    isplitl [HO]; · iexact HO
    isplitl [Hh] <;> iassumption
  iintro ⟨B0, A0, HO, Hh, G2⟩
  iapply (project_ok m K l 3 1 rfl ps) $$ [F3 HO Hh U3]
  · isplitr; · iexact He
    isplitl [F3]; · iexact F3
    isplitl [HO]; · iexact HO
    isplitl [Hh] <;> iassumption
  iintro ⟨B1, A1, HO, Hh, G3⟩
  iapply Hk
  isplitl [H1]; · iexact H1
  isplitl [B0 A0 B1 A1]
  · iapply (idle2_to m c l)
    unfold idle2
    isplitl [B0 A0]
    · isplitl [B0] <;> iassumption
    isplitl [B1] <;> iassumption
  isplitl [HO]; · iexact HO
  isplitl [Hh]; · iexists _; iexact Hh
  isplitl [Hn]; · iexact Hn
  isplitl [G0]; · iexact G0
  isplitl [G1]; · iexact G1
  isplitl [G2] <;> iassumption

/-! ## The result and the drained sends -/

theorem emits_ok (f : (cc0_stg1_0 : Ref sig .tc).ty.Contents (Elt F)) :
    iprop(env m K ∗ four (gone m c) 2 ∗ four (coming c) 2 ∗ OW c [] ∗ oPts c f)
      ⊢ iprop((iprop(four (gone m c) 2 ∗ four (come m c) 2 ∗ OW c [] ∗ oPts c (outAt m c)) -∗ WP c k Q)
          -∗ WP c (emit 0 <| emit 1 <| emit 2 <| emit 3 k) Q) := by
  unfold four gone
  iintro ⟨#He, ⟨⟨K0, S0⟩, ⟨K1, S1⟩, ⟨K2, S2⟩, ⟨K3, S3⟩⟩, ⟨C0, C1, C2, C3⟩, HO, Ho⟩ Hk
  iapply (emit_ok m K 0 f) $$ [K0 C0 HO Ho]
  · isplitr; · iexact He
    isplitl [K0]; · iexact K0
    isplitl [C0]; · iexact C0
    isplitl [HO] <;> iassumption
  iintro ⟨K0, C0, HO, Ho⟩
  iapply (emit_ok m K 1 _) $$ [K1 C1 HO Ho]
  · isplitr; · iexact He
    isplitl [K1]; · iexact K1
    isplitl [C1]; · iexact C1
    isplitl [HO] <;> iassumption
  iintro ⟨K1, C1, HO, Ho⟩
  iapply (emit_ok m K 2 _) $$ [K2 C2 HO Ho]
  · isplitr; · iexact He
    isplitl [K2]; · iexact K2
    isplitl [C2]; · iexact C2
    isplitl [HO] <;> iassumption
  iintro ⟨K2, C2, HO, Ho⟩
  iapply (emit_ok m K 3 _) $$ [K3 C3 HO Ho]
  · isplitr; · iexact He
    isplitl [K3]; · iexact K3
    isplitl [C3]; · iexact C3
    isplitl [HO] <;> iassumption
  iintro ⟨K3, C3, HO, Ho⟩
  iapply Hk
  isplitl [K0 K1 K2 K3 S0 S1 S2 S3]
  · isplitl [K0 S0]; · isplitl [K0] <;> iassumption
    isplitl [K1 S1]; · isplitl [K1] <;> iassumption
    isplitl [K2 S2]; · isplitl [K2] <;> iassumption
    isplitl [K3] <;> iassumption
  isplitl [C0 C1 C2 C3]
  · isplitl [C0]; · iexact C0
    isplitl [C1]; · iexact C1
    isplitl [C2] <;> iassumption
  isplitl [HO]; · iexact HO
  rw [emitted]
  iexact Ho

theorem drainL_ok (l : Fin 3) :
    iprop(env m K ∗ four (gone m c) l ∗ four (sAt c) l ∗ OW c [])
      ⊢ iprop((iprop(four (back c) l ∗ OW c []) -∗ WP c k Q) -∗ WP c (drainL l k) Q) := by
  unfold four drainL
  iintro ⟨#He, ⟨G0, G1, G2, G3⟩, ⟨A0, A1, A2, A3⟩, HO⟩ Hk
  iapply (drain_ok m K l 0 []) $$ [G0 A0 HO]
  · isplitr; · iexact He
    isplitl [G0]; · iexact G0
    isplitl [A0] <;> iassumption
  iintro ⟨G0, HO⟩
  iapply (drain_ok m K l 1 []) $$ [G1 A1 HO]
  · isplitr; · iexact He
    isplitl [G1]; · iexact G1
    isplitl [A1] <;> iassumption
  iintro ⟨G1, HO⟩
  iapply (drain_ok m K l 2 []) $$ [G2 A2 HO]
  · isplitr; · iexact He
    isplitl [G2]; · iexact G2
    isplitl [A2] <;> iassumption
  iintro ⟨G2, HO⟩
  iapply (drain_ok m K l 3 []) $$ [G3 A3 HO]
  · isplitr; · iexact He
    isplitl [G3]; · iexact G3
    isplitl [A3] <;> iassumption
  iintro ⟨G3, HO⟩
  iapply Hk
  isplitr [HO]
  · isplitl [G0]; · iexact G0
    isplitl [G1]; · iexact G1
    isplitl [G2] <;> iassumption
  iexact HO

/-! ## The body -/

variable (c) in
/-- The buffers and counters of the body's own, cut up: at the start -/
def roomPre (f : (cc0_stg1_0 : Ref sig .tc).ty.Contents (Elt F)) : sProp 𝕄 :=
  iprop((∃ h, hPts c h) ∗ frees1 c ∗ frees2 c ∗ (bigSep Finset.univ fun p : Blk => iprop(∃ f, sPts c p fullShare f)) ∗ (landing c 0 ∗ landing c 1 ∗ landing c 2)
    ∗ xPts m c ∗ oPts c f)
variable (c) in
/-- and at the end. -/
def roomPost : sProp 𝕄 :=
  iprop((∃ h, hPts c h) ∗ frees1 c ∗ frees2 c ∗ bigSep Finset.univ (back c) ∗ bigSep Finset.univ (come m c) ∗ xPts m c ∗ oPts c (outAt m c))
variable (c) in
/-- The six weight arrays. -/
def wholes : sProp 𝕄 := iprop((whole1 m c 0 ∗ whole1 m c 1 ∗ whole1 m c 2) ∗ whole2 m c 0 ∗ whole2 m c 1 ∗ whole2 m c 2)
variable (c) in
/-- What the launch deals for the exchange. -/
def dealt : sProp 𝕄 :=
  iprop((dutyTok ER (barCell (peer c 0)) 0 (0 : Fin 3) ∗ dutyTok ER (barCell (peer c 1)) 0 (1 : Fin 3) ∗ dutyTok ER (barCell (peer c 2)) 0 (2 : Fin 3))
    ∗ bigSep Finset.univ (due c) ∗ cred (tallyAt (barCell c) () 3) ∗ atPos ER (barCell c) 0 ∅ 0 ∗ bigSep Finset.univ (coming c) ∗ bigSep Finset.univ (sAt c))

theorem ret_ok : Q ⟨⟩ ⊢ WP c (.ret ⟨⟩ : KP F) Q := by
  unfold WP
  rw [wp_ret]
  iintro H
  imodintro
  iexact H

theorem prog_ok (f : (cc0_stg1_0 : Ref sig .tc).ty.Contents (Elt F)) :
    iprop(env m K ∗ dealt c ∗ wholes m c ∗ roomPre m c f ∗ (∃ W, owes (c : Thread nD τ) (O₀ c) W))
      ⊢ iprop((iprop(wholes m c ∗ roomPost m c ∗ semVal (barCell c) 0 ∗ OW c []) -∗ Q ⟨⟩) -∗ WP c prog Q) := by
  unfold prog dealt wholes roomPre
  simp only [wp_deviceId]
  iintro ⟨#He, ⟨Hbt, Hdue, Hcb, Hab, Hcom, Hsa⟩, ⟨⟨WA0, WA1, WA2⟩, WB0, WB1, WB2⟩, ⟨Hh, F1, F2, Hsp, Hl, Hx, Ho⟩, HO⟩ Hk
  iapply (shake_ok m K) $$ [Hl Hbt Hcb Hab HO]
  · isplitr; · iexact He
    isplitl [Hl]; · iexact Hl
    isplitl [Hbt]; · iexact Hbt
    isplitl [Hcb]; · iexact Hcb
    isplitl [Hab] <;> iassumption
  iintro ⟨P0, P1, P2, Hzb, HO⟩
  ihave Hu := (unsent_all (F := F) c) $$ [Hsp P0 P1 P2 Hdue]
  · isplitl [Hsp]; · iexact Hsp
    isplitr [Hdue]
    · isplitl [P0]; · iexact P0
      isplitl [P1] <;> iassumption
    iexact Hdue
  ihave Hu := (Entails.of_eq (layers (unsent c))) $$ Hu
  icases Hu with ⟨U0, U1, U2⟩
  ihave Hcom := (Entails.of_eq (layers (coming c))) $$ Hcom
  icases Hcom with ⟨C0, C1, C2⟩
  ihave Hsa := (Entails.of_eq (layers (sAt c))) $$ Hsa
  icases Hsa with ⟨A0, A1, A2⟩
  ihave Hx := (x_cut m c) $$ Hx
  icases Hx with ⟨Hxr, Hx⟩
  -- layer 0
  iapply (open_ok m 0) $$ [F1 WA0]
  · isplitl [F1] <;> iassumption
  iintro F1
  iapply (round_ok m K 0 1 [(1, 0), (1, 1), (1, 2), (1, 3), (2, 0), (2, 1), (2, 2), (2, 3)] (fun q _ => Fin.zero_le _)) $$ [F1 F2 WB0 WA1 HO Hh Hx U0]
  · isplitr; · iexact He
    isplitl [F1]; · iexact F1
    isplitl [F2 WB0]; · isplitl [F2] <;> iassumption
    isplitl [WA1]; · iexact WA1
    isplitl [HO]; · iexact HO
    isplitl [Hh]; · iexact Hh
    isplitl [Hx]; · iapply (Entails.of_eq (needs_x m c).symm); iexact Hx
    iexact U0
  iintro ⟨F1, ⟨F2, WB0⟩, WA0, HO, Hh, Hx, G0⟩
  -- layer 1
  ihave Hn := (needs_of m c 0 1 fun _ => rfl) $$ [G0 C0]
  · isplitl [G0] <;> iassumption
  icases Hn with ⟨Hn, S0⟩
  iapply (round_ok m K 1 2 [(2, 0), (2, 1), (2, 2), (2, 3)] (by decide)) $$ [F1 F2 WB1 WA2 HO Hh Hn U1]
  · isplitr; · iexact He
    isplitl [F1]; · iexact F1
    isplitl [F2 WB1]; · isplitl [F2] <;> iassumption
    isplitl [WA2]; · iexact WA2
    isplitl [HO]; · iexact HO
    isplitl [Hh]; · iexact Hh
    isplitl [Hn] <;> iassumption
  iintro ⟨F1, ⟨F2, WB1⟩, WA1, HO, Hh, Hn, G1⟩
  ihave Hn := (lefts_to m c 0 1 fun _ => rfl) $$ [Hn S0]
  · isplitl [Hn] <;> iassumption
  icases Hn with ⟨G0, C0⟩
  -- layer 2
  ihave Hn := (needs_of m c 1 2 fun _ => rfl) $$ [G1 C1]
  · isplitl [G1] <;> iassumption
  icases Hn with ⟨Hn, S1⟩
  iapply (last_ok m K 2 [] (by decide)) $$ [F1 F2 WB2 HO Hh Hn U2]
  · isplitr; · iexact He
    isplitl [F1]; · iexact F1
    isplitl [F2 WB2]; · isplitl [F2] <;> iassumption
    isplitl [HO]; · iexact HO
    isplitl [Hh]; · iexact Hh
    isplitl [Hn] <;> iassumption
  iintro ⟨⟨F1, WA2⟩, ⟨F2, WB2⟩, HO, Hh, Hn, G2⟩
  ihave Hn := (lefts_to m c 1 2 fun _ => rfl) $$ [Hn S1]
  · isplitl [Hn] <;> iassumption
  icases Hn with ⟨G1, C1⟩
  -- the result
  iapply (emits_ok m K f) $$ [G2 C2 HO Ho]
  · isplitr; · iexact He
    isplitl [G2]; · iexact G2
    isplitl [C2]; · iexact C2
    isplitl [HO] <;> iassumption
  iintro ⟨G2, C2, HO, Ho⟩
  -- the sends drained
  iapply (drainL_ok m K 0) $$ [G0 A0 HO]
  · isplitr; · iexact He
    isplitl [G0]; · iexact G0
    isplitl [A0] <;> iassumption
  iintro ⟨G0, HO⟩
  iapply (drainL_ok m K 1) $$ [G1 A1 HO]
  · isplitr; · iexact He
    isplitl [G1]; · iexact G1
    isplitl [A1] <;> iassumption
  iintro ⟨G1, HO⟩
  iapply (drainL_ok m K 2) $$ [G2 A2 HO]
  · isplitr; · iexact He
    isplitl [G2]; · iexact G2
    isplitl [A2] <;> iassumption
  iintro ⟨G2, HO⟩
  iapply ret_ok
  iapply Hk
  unfold roomPost
  rw [layers (back c), layers (come m c)]
  isplitl [WA0 WA1 WA2 WB0 WB1 WB2]
  · isplitl [WA0 WA1 WA2]
    · isplitl [WA0]; · iexact WA0
      isplitl [WA1] <;> iassumption
    isplitl [WB0]; · iexact WB0
    isplitl [WB1] <;> iassumption
  isplitr [Hzb HO]
  · isplitl [Hh]; · iexact Hh
    isplitl [F1]; · iexact F1
    isplitl [F2]; · iexact F2
    isplitl [G0 G1 G2]
    · isplitl [G0]; · iexact G0
      isplitl [G1] <;> iassumption
    isplitl [C0 C1 C2]
    · isplitl [C0]; · iexact C0
      isplitl [C1] <;> iassumption
    isplitl [Hxr Hx]
    · iapply (x_join m c)
      isplitl [Hxr]; · iexact Hxr
      iapply (Entails.of_eq (lefts_x m c)); iexact Hx
    iexact Ho
  isplitl [Hzb] <;> iassumption

end Cert.KernelIdeal.Body

end
-- ==== Proof.ProgEq.lean ====
module

public import proofs.«01_k».proof.Proof.Prog

@[expose] public section

noncomputable section

namespace Cert.KernelIdeal.Body

open Idealize.ShloMosaic Idealize.SL.Sem Cert.KernelIdeal Cert.KernelIdeal.Gen

variable {F : FTy → Type} [FloatOps F]

/-- The printed body is the pieces in order. -/
theorem body_eq : bodyAt0 (F := F) t0_0 = prog := by
  chain_rfl

end Cert.KernelIdeal.Body

end
-- ==== Proof.Point.lean ====
/- The pipeline's proof data and its body obligation: the buffers and counters a device starts its body with, and what it
   leaves. -/
module

public import proofs.«01_k».proof.Proof.Run
public import proofs.«01_k».proof.Proof.ProgEq

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin2 bigSep_fin3 bigSep_fin4)
open Idealize.ShloMosaic.Transfers (shareTok shareDrop Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Lists of cells -/

theorem over_blocks (Φ : Blk × Fin 3 → sProp 𝕄) :
    bigSep Finset.univ Φ = bigSep Finset.univ fun p : Blk => iprop(Φ (p, 0) ∗ Φ (p, 1) ∗ Φ (p, 2)) := by
  rw [bigSep_univ_prod]
  exact bigSep_congr fun p _ => bigSep_fin3 fun e => Φ (p, e)

/-- The transfer cells, by side and block. -/
theorem over_sides (Ψ : Bool × Blk × Fin 3 → sProp 𝕄) : bigSep Finset.univ Ψ
    = iprop((bigSep Finset.univ fun p : Blk => iprop(Ψ (false, p, 0) ∗ Ψ (false, p, 1) ∗ Ψ (false, p, 2)))
      ∗ bigSep Finset.univ fun p : Blk => iprop(Ψ (true, p, 0) ∗ Ψ (true, p, 1) ∗ Ψ (true, p, 2))) := by
  rw [bigSep_univ_prod, bigSep_univ_eq_bigSepL [false, true] (by decide) (by decide)]
  show iprop((bigSep Finset.univ fun x : Blk × Fin 3 => Ψ (false, x)) ∗ bigSep Finset.univ fun x : Blk × Fin 3 => Ψ (true, x)) = _
  rw [over_blocks, over_blocks]

/-- A device's cells: the barrier, then the transfer cells. -/
theorem over_cells (Φ : CellIx → sProp 𝕄) : bigSep Finset.univ Φ = iprop(Φ none ∗ bigSep Finset.univ fun x : Bool × Blk × Fin 3 => Φ (some x)) := by
  have h : (Finset.univ : Finset CellIx) = insert none (Finset.univ.map Function.Embedding.some) := by
    ext k; rcases k with _ | x <;> simp
  rw [h, bigSep_insert (by simp), bigSep_map]
  rfl

/-! ## The buffers and counters of the body's own -/

/-- The weight slots' counters at zero. -/
def wsems : sProp 𝕄 :=
  iprop(semVal ((c : Thread nD τ), SemLoc.dma (w1Sem 0).sem) 0 ∗ semVal ((c : Thread nD τ), SemLoc.dma (w1Sem 1).sem) 0
    ∗ semVal ((c : Thread nD τ), SemLoc.dma (w2Sem 0).sem) 0 ∗ semVal ((c : Thread nD τ), SemLoc.dma (w2Sem 1).sem) 0)

def room : sProp 𝕄 :=
  iprop((∃ h, hPts c h) ∗ frees1 c ∗ frees2 c ∗ (bigSep Finset.univ fun p : Blk => iprop(∃ f, sPts c p fullShare f)) ∗ (landing c 0 ∗ landing c 1 ∗ landing c 2))
def roomEnd : sProp 𝕄 :=
  iprop((∃ h, hPts c h) ∗ frees1 c ∗ frees2 c ∗ bigSep Finset.univ (back c) ∗ bigSep Finset.univ (come m c))

theorem room_intro : iprop(wsems c ∗ Pipeline.scopedRest cfg0.spec c) ⊢ (room c : sProp 𝕄) := by
  rw [show (Pipeline.scopedRest cfg0.spec c : sProp 𝕄) = _ from scopedRest0_eq c]
  unfold room wsems frees1 frees2 free1 free2
  iintro ⟨⟨Z0, Z1, Z2, Z3⟩, ⟨%h, Hh⟩, ⟨%f1, H1⟩, ⟨%f2, H2⟩, ⟨%f3, H3⟩, ⟨%f4, H4⟩⟩
  ihave H1 := (b1_cut c f1) $$ H1
  icases H1 with ⟨A0, A1⟩
  ihave H2 := (b2_cut c f2) $$ H2
  icases H2 with ⟨B0, B1⟩
  ihave H3 := (send_cut c f3) $$ H3
  ihave H4 := (recv_cut c f4) $$ H4
  isplitl [Hh]; · iexists h; unfold hPts; iexact Hh
  isplitl [A0 Z0 A1 Z1]
  · isplitl [A0 Z0]
    · isplitl [A0] <;> iassumption
    isplitl [A1] <;> iassumption
  isplitl [B0 Z2 B1 Z3]
  · isplitl [B0 Z2]
    · isplitl [B0] <;> iassumption
    isplitl [B1] <;> iassumption
  isplitl [H3] <;> iassumption

/-- The transfer cells' counters at zero: the send side's and the receive side's. -/
def sZero (p : Blk) : sProp 𝕄 := iprop(semVal (sCell c p 0) 0 ∗ semVal (sCell c p 1) 0 ∗ semVal (sCell c p 2) 0)
def rZero (p : Blk) : sProp 𝕄 := iprop(semVal (rCell c p 0) 0 ∗ semVal (rCell c p 1) 0 ∗ semVal (rCell c p 2) 0)

theorem backs : bigSep Finset.univ (back c)
    ⊢ (iprop((bigSep Finset.univ fun p : Blk => iprop(∃ f, sPts c p fullShare f)) ∗ bigSep Finset.univ (sZero c)) : sProp 𝕄) := by
  rw [← bigSep_sep']
  exact bigSep_mono fun p _ => BI.Entails.refl _
theorem comes : bigSep Finset.univ (come m c)
    ⊢ iprop((landing c 0 ∗ landing c 1 ∗ landing c 2) ∗ bigSep Finset.univ (rZero c)) := by
  unfold landing
  rw [← bigSep_sep', ← bigSep_sep', ← bigSep_sep']
  refine bigSep_mono fun p _ => ?_
  show (_ : sProp 𝕄) ⊢ _
  unfold come landedAt rPay rZero
  iintro ⟨⟨A0, Z0⟩, ⟨A1, Z1⟩, A2, Z2⟩
  isplitl [A0 A1 A2]
  · isplitl [A0]; · iexists _; iexact A0
    isplitl [A1]; · iexists _; iexact A1
    iexists _; iexact A2
  isplitl [Z0]; · iexact Z0
  isplitl [Z1] <;> iassumption

theorem room_exit : roomEnd m c ⊢ iprop((wsems c ∗ Pipeline.scopedRest cfg0.spec c) ∗ bigSep Finset.univ (sZero c) ∗ bigSep Finset.univ (rZero c)) := by
  rw [show (Pipeline.scopedRest cfg0.spec c : sProp 𝕄) = _ from scopedRest0_eq c]
  unfold roomEnd wsems frees1 frees2 free1 free2
  iintro ⟨⟨%h, Hh⟩, ⟨⟨A0, Z0⟩, A1, Z1⟩, ⟨⟨B0, Z2⟩, B1, Z3⟩, Hb, Hc⟩
  ihave Hb := (backs (F := F) c) $$ Hb
  icases Hb with ⟨H3, Hzs⟩
  ihave Hc := (comes m c) $$ Hc
  icases Hc with ⟨H4, Hzr⟩
  ihave H1 := (b1_join (F := F) c) $$ [A0 A1]
  · isplitl [A0] <;> iassumption
  ihave H2 := (b2_join (F := F) c) $$ [B0 B1]
  · isplitl [B0] <;> iassumption
  ihave H3 := (send_join (F := F) c) $$ H3
  ihave H4 := (recv_join (F := F) c) $$ H4
  isplitr [Hzs Hzr]
  · isplitl [Z0 Z1 Z2 Z3]
    · isplitl [Z0]; · iexact Z0
      isplitl [Z1]; · iexact Z1
      isplitl [Z2] <;> iassumption
    isplitl [Hh]; · iexists h; unfold hPts; iexact Hh
    isplitl [H1]; · iexact H1
    isplitl [H2]; · iexact H2
    isplitl [H3] <;> iassumption
  isplitl [Hzs] <;> iassumption

/-! ## The proof data -/

def Φ₀ : sProp 𝕄 := iprop((∃ K, env m K ∗ dealt c) ∗ wholes m c ∗ room c)
def Φ₁ : sProp 𝕄 := iprop(wholes m c ∗ roomEnd m c ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetched_x (t : Fin cfg0.N) : (cfg0.win (0 : Fin 2)).fetch t = true := by rw [fin_N0 t]; rfl

theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost : sProp 𝕄 :=
  iprop(Φ₁ m c ∗ (dats m 0 c).owesAt () t0_0.succ ∗ stg c cc0_stg0_0 (xstg m c) ∗ stg c cc0_stg1_0 (outAt m c))

theorem body_ok : bodyPre m c ⊢ WP c prog (fun _ => bodyPost m c) := by
  unfold bodyPre Φ₀
  iintro ⟨⟨⟨%K, #He, Hd⟩, Hw, Hr⟩, Ho, ⟨%d0, %g0, %hg0, Hx⟩, ⟨%d1, %g1, %hg1, Hout⟩⟩
  have hx : g0 = xstg m c := by rw [hg0]; unfold Dat.before; rw [if_pos (fetched_x t0_0)]; rfl
  subst hx
  unfold Dat.owesAt Pipeline.owesWithin
  icases Ho with ⟨%W, %hW, HO⟩
  rw [show (dats m 0 c).owed t0_0.castSucc = O₀ c from rfl]
  unfold room
  icases Hr with ⟨R0, R1, R2, R3, R4⟩
  iapply (prog_ok m K g1) $$ [Hd Hw R0 R1 R2 R3 R4 Hx Hout HO]
  · isplitr; · iexact He
    isplitl [Hd]; · iexact Hd
    isplitl [Hw]; · iexact Hw
    isplitr [HO]
    · unfold roomPre xPts oPts
      isplitl [R0]; · iexact R0
      isplitl [R1]; · iexact R1
      isplitl [R2]; · iexact R2
      isplitl [R3]; · iexact R3
      isplitl [R4]; · iexact R4
      isplitl [Hx] <;> iassumption
    iexists W; iexact HO
  iintro ⟨Hw, Hr, Hz, HO⟩
  unfold roomPost OW xPts oPts
  icases Hr with ⟨R0, R1, R2, R3, R4, Hx, Hout⟩
  icases HO with ⟨%W', HO⟩
  unfold bodyPost Φ₁ roomEnd Dat.owesAt Pipeline.owesWithin
  rw [show (dats m 0 c).owed t0_0.succ = 0 from rfl]
  isplitl [Hw R0 R1 R2 R3 R4 Hz]
  · isplitl [Hw]; · iexact Hw
    isplitr [Hz]
    · isplitl [R0]; · iexact R0
      isplitl [R1]; · iexact R1
      isplitl [R2]; · iexact R2
      isplitl [R3] <;> iassumption
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem body_row : defs₀ (F := F) .tc cfg0.body (cfg0.bodyArgs t0_0 (cfg0.slots t0_0)) = prog := Eq.trans rfl body_eq

set_option maxRecDepth 100000 in
theorem body_obligation : BodyObligation (dats (F := F) m 0 c) (defs₀ (F := F)) 𝒱₀ () Set.univ := fun t => by
  rw [fin_N0 t, body_row]
  rw [bigSep_W0, bigSep_W0]
  simp only [owns_whole]
  exact body_ok m c

end Cert.KernelIdeal.Body

end
-- ==== Proof.Mint.lean ====
/- The cells' launch: their tokens minted, their invariants allocated, the tokens handed to the devices that pay. -/
module

public import proofs.«01_k».proof.Proof.Point

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin2 bigSep_fin3 bigSep_fin4)
open Idealize.ShloMosaic.Transfers (shareTok shareDrop Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The cells and the tokens -/

theorem place_inj {l l' : Fin 3} {j j' : Fin 4} {e e' : Fin 3} (h : 12 * l.val + 3 * j.val + e.val = 12 * l'.val + 3 * j'.val + e'.val) :
    l = l' ∧ j = j' ∧ e = e' := by
  refine ⟨Fin.ext ?_, Fin.ext ?_, Fin.ext ?_⟩ <;> omega

/-- A semaphore's place. -/
def semNo (sm : SemLoc sig) : ℕ := match sm with
  | .reg _ => 0
  | .dma q => q.val
theorem csem_s (p : Blk) (e : Fin 3) : semNo (csem (some (false, p, e))) = 6 + (12 * p.1.val + 3 * p.2.val + e.val) := sSem_val _ _ _
theorem csem_r (p : Blk) (e : Fin 3) : semNo (csem (some (true, p, e))) = 42 + (12 * p.1.val + 3 * p.2.val + e.val) := rSem_val _ _ _
theorem csem_none : semNo (csem none) = 0 := rfl

theorem csem_injective : Function.Injective csem := by
  rintro (_ | ⟨_ | _, ⟨l, j⟩, e⟩) (_ | ⟨_ | _, ⟨l', j'⟩, e'⟩) h
  all_goals
    have h' := congrArg semNo h
    simp only [csem_s, csem_r, csem_none] at h'
  all_goals try omega
  · rfl
  all_goals
    obtain ⟨h1, h2, h3⟩ := place_inj (Nat.add_left_cancel h')
    subst h1 h2 h3
    rfl

theorem kcell_injective : Function.Injective kcell := by
  rintro ⟨c, k⟩ ⟨c', k'⟩ h
  have h1 : c = c' := congrArg (fun g : GSem nD τ sig => g.1.1) h
  subst h1
  have h2 : k = k' := csem_injective (congrArg Prod.snd h)
  subst h2; rfl

def cells : Finset (GSem nD τ sig) := Finset.univ.map ⟨kcell, kcell_injective⟩

/-- A device's tokens: its barrier's three, one for each transfer cell. -/
abbrev TokIx : Type := Dev nD × (Fin 3 ⊕ (Bool × Blk × Fin 3))
abbrev tokOf : TokIx → GSem nD τ sig × ℕ × Fin 3
  | (c, .inl e) => (barCell c, 0, e)
  | (c, .inr x) => (kcell (c, some x), 0, 0)
theorem tokOf_injective : Function.Injective tokOf := by
  rintro ⟨c, e | x⟩ ⟨c', e' | x'⟩ h
  · have h1 : c = c' := congrArg (fun g : GSem nD τ sig × ℕ × Fin 3 => g.1.1.1) h
    have h2 : e = e' := congrArg (fun g : GSem nD τ sig × ℕ × Fin 3 => g.2.2) h
    subst h1 h2; rfl
  · have h1 := kcell_injective (a₁ := (c, none)) (a₂ := (c', some x')) (congrArg Prod.fst h)
    exact absurd (congrArg Prod.snd h1) (by simp)
  · have h1 := kcell_injective (a₁ := (c, some x)) (a₂ := (c', none)) (congrArg Prod.fst h)
    exact absurd (congrArg Prod.snd h1) (by simp)
  · have h1 := kcell_injective (a₁ := (c, some x)) (a₂ := (c', some x')) (congrArg Prod.fst h)
    simp only [Prod.mk.injEq, Option.some.injEq] at h1
    obtain ⟨rfl, rfl⟩ := h1; rfl
def minted : Finset (GSem nD τ sig × ℕ × Fin 3) := Finset.univ.map ⟨tokOf, tokOf_injective⟩

def u₀ : UU :=
  (initOf (Pipeline.cells cfgs cellOf_inj) (Pipeline.launchToks cfgs cellOf_inj), (initOf cells minted, 1))

/-- The tokens of a device's own cells; -/
def toks : sProp 𝕄 :=
  iprop((dutyTok ER (barCell c) 0 (0 : Fin 3) ∗ dutyTok ER (barCell c) 0 (1 : Fin 3) ∗ dutyTok ER (barCell c) 0 (2 : Fin 3))
    ∗ bigSep Finset.univ fun x : Bool × Blk × Fin 3 => dutyTok ER (kcell (c, some x)) 0 (0 : Fin 3))
/-- those it pays with. -/
def paid : sProp 𝕄 :=
  iprop((dutyTok ER (barCell (peer c 0)) 0 (0 : Fin 3) ∗ dutyTok ER (barCell (peer c 1)) 0 (1 : Fin 3) ∗ dutyTok ER (barCell (peer c 2)) 0 (2 : Fin 3))
    ∗ bigSep Finset.univ (due c))

def G : sProp 𝕄 :=
  iprop((bigSep Finset.univ fun k : CellIx => roundState ER (sched m) (kcell (c, k)) 0)
    ∗ (bigSep Finset.univ fun k : CellIx => iprop(atPos ER (kcell (c, k)) 0 ∅ 0 ∗ reached ER (kcell (c, k)) 0)) ∗ toks c)

theorem over_all (Φ : GSem nD τ sig → sProp 𝕄) :
    bigSep cells Φ = bigSep Finset.univ fun c : Dev nD => bigSep Finset.univ fun k : CellIx => Φ (kcell (c, k)) := by
  unfold cells; rw [bigSep_map, bigSep_univ_prod]; rfl
theorem over_minted : bigSep minted (fun x => (dutyTok ER x.1 x.2.1 x.2.2 : sProp 𝕄)) = bigSep Finset.univ fun c : Dev nD => toks c := by
  unfold minted
  rw [bigSep_map, bigSep_univ_prod]
  refine bigSep_congr fun c _ => ?_
  unfold toks
  rw [bigSep_univ_sum, bigSep_fin3]
  rfl

theorem fund : BI.own (ER (initOf cells minted)) ⊢ (|==> bigSep Finset.univ (G m) : sProp 𝕄) := by
  iintro HX
  imod (Rounds.fund ER (sched m) cells minted) $$ HX with ⟨Hst, Hr, Hat, Htok⟩
  imodintro
  ihave Hst' := (Entails.of_eq (over_all fun g => roundState ER (sched m) g 0)) $$ Hst
  ihave Hat' := (Entails.of_eq (over_all fun g => atPos ER g 0 ∅ 0)) $$ Hat
  ihave Hr' := (Entails.of_eq (over_all fun g => reached ER g 0)) $$ Hr
  ihave Htok' := (Entails.of_eq over_minted) $$ Htok
  unfold G; simp only [bigSep_sep']
  isplitl [Hst']; · iexact Hst'
  isplitl [Hat' Hr']
  · isplitl [Hat'] <;> iassumption
  iexact Htok'

/-! ## The kernel's own semaphores -/

abbrev osem : Fin 4 ⊕ (Bool × Blk × Fin 3) → SemLoc sig
  | .inl i => if i.val < 2 then .dma (w1Sem i).sem else .dma (w2Sem i).sem
  | .inr x => csem (some x)

theorem ownSems0_eq : (Pipeline.ownSems0 (Ix := Unit) (Name := ℕ) (U := UU) (Lvl := ℕ) (Val := Elt F) (τ := τ) osem c : sProp 𝕄)
    = iprop(wsems c ∗ bigSep Finset.univ fun x : Bool × Blk × Fin 3 => semVal (kcell (c, some x)) 0) := by
  unfold Pipeline.ownSems0
  rw [bigSep_univ_sum, bigSep_fin4]
  rfl
theorem unscopedSems0_eq : (unscopedSems0 c : sProp 𝕄) = semVal (barCell c) 0 := by
  unfold unscopedSems0; rw [bigSep_eq_bigSepL_of_eq [SemLoc.reg barS.sem] (by decide) (by decide)]; rfl

theorem sems0 : iprop(Pipeline.ownSems0 (Ix := Unit) (Name := ℕ) (U := UU) (Lvl := ℕ) (Val := Elt F) (τ := τ) osem c ∗ unscopedSems0 c)
    ⊢ (iprop((bigSep Finset.univ fun k : CellIx => semVal (kcell (c, k)) 0) ∗ wsems c) : sProp 𝕄) := by
  rw [ownSems0_eq, unscopedSems0_eq, over_cells]
  iintro ⟨⟨HW, HX⟩, HB⟩
  isplitr [HW]
  · isplitl [HB]; · iexact HB
    iexact HX
  iexact HW

theorem allocated : iprop((bigSep Finset.univ fun k : CellIx => semVal (kcell (c, k)) 0) ∗ bigSep Finset.univ fun k : CellIx => roundState ER (sched m) (kcell (c, k)) 0)
    ⊢ (|={Set.univ}=> bigSep Finset.univ fun k : CellIx => iprop(∃ κ : ℕ, cellInv ER (sched m) κ (kcell (c, k))) : sProp 𝕄) := by
  rw [← bigSep_sep']
  exact (bigSep_mono fun k _ => (Rounds.body_intro ER (sched m) (kcell (c, k))).trans inv_alloc).trans (bigSep_fupd _ _)

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellIx => iprop(∃ κ : ℕ, cellInv ER (sched m) κ (kcell (c, k))))
          ∗ ((bigSep Finset.univ fun k : CellIx => atPos ER (kcell (c, k)) 0 ∅ 0) ∗ bigSep Finset.univ fun k : CellIx => reached ER (kcell (c, k)) 0)
          ∗ toks c ∗ wsems c) := by
  unfold G
  rw [bigSep_sep']
  iintro ⟨Hos, Hus, Hst, Hat, Htok⟩
  ihave Hv := (sems0 (F := F) c) $$ [Hos Hus]
  · isplitl [Hos] <;> iassumption
  icases Hv with ⟨Hv, HW⟩
  imod (allocated m c) $$ [Hv Hst] with Hinv
  · isplitl [Hv] <;> iassumption
  imodintro
  isplitl [Hinv]; · iexact Hinv
  isplitl [Hat]; · iexact Hat
  isplitl [Htok] <;> iassumption

/-! ## The tokens to their payers -/

/-- What is dealt to a peer across each direction, seen from the peer. -/
theorem swap3 (A : Dev nD → Fin 3 → sProp 𝕄) : (bigSep Finset.univ fun c : Dev nD => iprop(A c 0 ∗ A c 1 ∗ A c 2))
    = bigSep Finset.univ fun c : Dev nD => iprop(A (peer c 0) 0 ∗ A (peer c 1) 1 ∗ A (peer c 2) 2) := by
  rw [bigSep_sep', bigSep_sep', bigSep_sep', bigSep_sep', bigSep_univ_equiv (across 0) (fun c : Dev nD => A c 0),
    bigSep_univ_equiv (across 1) (fun c : Dev nD => A c 1), bigSep_univ_equiv (across 2) (fun c : Dev nD => A c 2)]
  rfl

/-- Over devices, then blocks: the other way about. -/
theorem flip (Φ : Dev nD → Blk → sProp 𝕄) : (bigSep Finset.univ fun c : Dev nD => bigSep Finset.univ fun p : Blk => Φ c p)
    = bigSep Finset.univ fun p : Blk => bigSep Finset.univ fun c : Dev nD => Φ c p := by
  rw [← bigSep_univ_prod fun x : Dev nD × Blk => Φ x.1 x.2, bigSep_univ_equiv (Equiv.prodComm Blk (Dev nD)), bigSep_univ_prod]
  rfl

theorem swapB (A : Dev nD → Blk → Fin 3 → sProp 𝕄) :
    (bigSep Finset.univ fun c : Dev nD => bigSep Finset.univ fun p : Blk => iprop(A c p 0 ∗ A c p 1 ∗ A c p 2))
      = bigSep Finset.univ fun c : Dev nD => bigSep Finset.univ fun p : Blk => iprop(A (peer c 0) p 0 ∗ A (peer c 1) p 1 ∗ A (peer c 2) p 2) := by
  rw [flip, bigSep_congr fun p _ => swap3 fun c e => A c p e, flip]

theorem due_intro : iprop((bigSep Finset.univ fun p : Blk => iprop(dutyTok ER (sCell c p 0) 0 (0 : Fin 3) ∗ dutyTok ER (sCell c p 1) 0 (0 : Fin 3) ∗ dutyTok ER (sCell c p 2) 0 (0 : Fin 3)))
      ∗ bigSep Finset.univ fun p : Blk => iprop(dutyTok ER (rCell (peer c 0) p 0) 0 (0 : Fin 3) ∗ dutyTok ER (rCell (peer c 1) p 1) 0 (0 : Fin 3) ∗ dutyTok ER (rCell (peer c 2) p 2) 0 (0 : Fin 3)))
    ⊢ (bigSep Finset.univ (due c) : sProp 𝕄) := by
  rw [← bigSep_sep']
  refine bigSep_mono fun p _ => ?_
  show (_ : sProp 𝕄) ⊢ _
  unfold due dues
  iintro ⟨⟨S0, S1, S2⟩, R0, R1, R2⟩
  isplitl [S0 R0]
  · isplitl [S0] <;> iassumption
  isplitl [S1 R1]
  · isplitl [S1] <;> iassumption
  isplitl [S2] <;> iassumption

theorem toks_around : (bigSep Finset.univ fun c : Dev nD => (toks c : sProp 𝕄)) ⊢ bigSep Finset.univ fun c : Dev nD => paid c := by
  unfold toks paid
  refine (Entails.of_eq (bigSep_sep' _ _ _)).trans (BIBase.Entails.trans ?_ (Entails.of_eq (bigSep_sep' _ _ _).symm))
  rw [swap3 fun c e => dutyTok ER (barCell c) 0 e]
  refine sep_mono_right ?_
  simp only [over_sides]
  rw [bigSep_sep', show (bigSep Finset.univ fun c : Dev nD => bigSep Finset.univ fun p : Blk => iprop(dutyTok ER (kcell (c, some (true, p, 0))) 0 (0 : Fin 3)
        ∗ dutyTok ER (kcell (c, some (true, p, 1))) 0 (0 : Fin 3) ∗ dutyTok ER (kcell (c, some (true, p, 2))) 0 (0 : Fin 3)) : sProp 𝕄) = _ from
      swapB fun c p e => dutyTok ER (rCell c p e) 0 (0 : Fin 3), ← bigSep_sep']
  exact bigSep_mono fun c _ => due_intro c

/-- What stays with a device; what every device may use. -/
def linear : sProp 𝕄 := iprop((bigSep Finset.univ fun k : CellIx => atPos ER (kcell (c, k)) 0 ∅ 0) ∗ paid c)
def records (K : Dev nD × CellIx → ℕ) : sProp 𝕄 :=
  iprop((bigSep Finset.univ fun ck : Dev nD × CellIx => cellInv ER (sched m) (K ck) (kcell ck))
    ∗ bigSep Finset.univ fun ck : Dev nD × CellIx => reached ER (kcell ck) 0)
instance records_persistent (K : Dev nD × CellIx → ℕ) : BI.Persistent (records m K) := by unfold records; infer_instance
def G' : sProp 𝕄 := iprop((∃ K, records m K ∗ linear c) ∗ wsems c)

theorem G'_intro (K : Dev nD × CellIx → ℕ) :
    iprop(records m K ∗ (bigSep Finset.univ fun k : CellIx => atPos ER (kcell (c, k)) 0 ∅ 0) ∗ paid c ∗ wsems c) ⊢ G' m c := by
  unfold G' linear
  iintro ⟨HR, Ha, Hp, Hw⟩
  isplitr [Hw]
  · iexists K
    isplitl [HR]; · iexact HR
    isplitl [Ha] <;> iassumption
  iexact Hw

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CellIx => iprop(∃ κ : ℕ, cellInv ER (sched m) κ (kcell (c, k))))
          ∗ ((bigSep Finset.univ fun k : CellIx => atPos ER (kcell (c, k)) 0 ∅ 0) ∗ bigSep Finset.univ fun k : CellIx => reached ER (kcell (c, k)) 0)
          ∗ toks c ∗ wsems c) : sProp 𝕄)
      ⊢ bigSep Finset.univ (G' m) := by
  rw [bigSep_sep', bigSep_sep', bigSep_sep', bigSep_sep', ← bigSep_univ_prod (fun ck : Dev nD × CellIx => iprop(∃ κ : ℕ, cellInv ER (sched m) κ (kcell ck))),
    ← bigSep_univ_prod (fun ck : Dev nD × CellIx => (reached ER (kcell ck) 0 : sProp 𝕄))]
  iintro ⟨HI, ⟨Hat, #HR⟩, Htok, Hw⟩
  ihave HK := (BI.bigSep_exists_pi Finset.univ (fun (ck : Dev nD × CellIx) (κ : ℕ) => (cellInv ER (sched m) κ (kcell ck) : sProp 𝕄))) $$ HI
  icases HK with ⟨%K, #HI⟩
  ihave Htk := (toks_around (F := F)) $$ Htok
  iapply (with_records (R := records m K) fun c _ => G'_intro m c K)
  rw [bigSep_sep', bigSep_sep']
  isplitr
  · unfold records; isplitl; · iexact HI
    iexact HR
  isplitl [Hat]; · iexact Hat
  isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Body

end
-- ==== Proof.Credit.lean ====
/- The launch credit: what each device's cells expect is what the devices owe them. -/
module

public import proofs.«01_k».proof.Proof.Mint

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin2 bigSep_fin3 bigSep_fin4)
open Idealize.ShloMosaic.Transfers (shareTok shareDrop Flight)
open Idealize.ShloMosaic.Pipeline (Dat Cfg Window BodyObligation cellOf)

variable {F : FTy → Type} [FloatOps F]

local notation "𝕄" => MT nD τ sig Unit (Elt F) ℕ UU ℕ

/-! ## What is owed at a cell -/

theorem rCell_eq {c c' : Dev nD} {p p' : Blk} {e e' : Fin 3} (h : rCell c p e = rCell c' p' e') : c = c' ∧ p = p' ∧ e = e' := by
  have h1 := kcell_injective (a₁ := (c, some (true, p, e))) (a₂ := (c', some (true, p', e'))) h
  simp only [Prod.mk.injEq, Option.some.injEq, true_and] at h1
  exact h1
theorem bar_eq {c c' : Dev nD} (h : barCell c = barCell c') : c = c' := congrArg (fun g : GSem nD τ sig => g.1.1) h
theorem bar_ne_r (c c' : Dev nD) (p : Blk) (e : Fin 3) : barCell c ≠ rCell c' p e := fun h =>
  absurd (congrArg Prod.snd (kcell_injective (a₁ := (c, none)) (a₂ := (c', some (true, p, e))) h)) (by simp)

theorem tally_r (c d : Dev nD) (p q : Blk) (e e' : Fin 3) :
    (tallyAt (rCell (peer d e') q e') () N : CellTallies nD τ sig Unit) (rCell c p e) () = if e' = e ∧ q = p ∧ d = peer c e then N else 0 := by
  rw [tallyAt_apply]
  refine if_congr ⟨fun h => ?_, fun h => ?_⟩ rfl rfl
  · obtain ⟨h1, h2, h3⟩ := rCell_eq h.1
    subst h2 h3
    exact ⟨rfl, rfl, by rw [h1, peer_peer]⟩
  · obtain ⟨rfl, rfl, rfl⟩ := h
    exact ⟨by rw [peer_peer], rfl⟩

theorem owe3_at (c d : Dev nD) (p q : Blk) (e : Fin 3) (O : CellTallies nD τ sig Unit) :
    owe3 d q O (rCell c p e) () = O (rCell c p e) () + if q = p ∧ d = peer c e then N else 0 := by
  unfold owe3
  rw [Pi.add_apply, Finsupp.add_apply, Pi.add_apply, Finsupp.add_apply, Pi.add_apply, Finsupp.add_apply, tally_r, tally_r, tally_r]
  fin_cases e
  · simp
  · simp
  · simp

theorem owed_at (c d : Dev nD) (p : Blk) (e : Fin 3) : ∀ ps : List Blk,
    owed d ps (rCell c p e) () = ps.count p * if d = peer c e then N else 0
  | [] => by rw [List.count_nil, Nat.zero_mul]; rfl
  | q :: ps => by
    rw [show owed d (q :: ps) = owe3 d q (owed d ps) from rfl, owe3_at, owed_at c d p e ps, List.count_cons]
    by_cases h : q = p <;> by_cases hd : d = peer c e <;> simp [h, hd, Nat.add_mul]

theorem owed_bar (c d : Dev nD) : ∀ ps : List Blk, owed d ps (barCell c) () = 0
  | [] => rfl
  | q :: ps => by
    rw [show owed d (q :: ps) = owe3 d q (owed d ps) from rfl]
    unfold owe3
    rw [Pi.add_apply, Finsupp.add_apply, Pi.add_apply, Finsupp.add_apply, Pi.add_apply, Finsupp.add_apply, owed_bar c d ps,
      tallyAt_ne_cell (bar_ne_r _ _ _ _), tallyAt_ne_cell (bar_ne_r _ _ _ _), tallyAt_ne_cell (bar_ne_r _ _ _ _)]
    rfl

theorem tally_bar (c d : Dev nD) (e : Fin 3) :
    (tallyAt (barCell (peer d e)) () 1 : CellTallies nD τ sig Unit) (barCell c) () = if d = peer c e then 1 else 0 := by
  rw [tallyAt_apply]
  refine if_congr ⟨fun h => ?_, fun h => ?_⟩ rfl rfl
  · rw [bar_eq h.1, peer_peer]
  · subst h; exact ⟨by rw [peer_peer], rfl⟩
theorem tally_bar_r (c d : Dev nD) (p : Blk) (e : Fin 3) (n : ℕ) :
    (tallyAt (barCell d) () n : CellTallies nD τ sig Unit) (rCell c p e) () = 0 := by
  rw [tallyAt_ne_cell fun h => bar_ne_r _ _ _ _ h.symm]; rfl

theorem count_order (p : Blk) : order.count p = 1 := by revert p; decide

theorem launch_r (c : Dev nD) (p : Blk) (e : Fin 3) :
    tallyOn (rCell c p e) (launchCredit (Pipeline.owing O₀) 0 (rCell c p e)) = (tallyAt (rCell c p e) () N : CellTallies nD τ sig Unit) := by
  have h (d : Dev nD) : O₀ d (rCell c p e) () = if d = peer c e then N else 0 := by
    unfold O₀
    rw [Pi.add_apply, Finsupp.add_apply, Pi.add_apply, Finsupp.add_apply, Pi.add_apply, Finsupp.add_apply, tally_bar_r, tally_bar_r, tally_bar_r,
      owed_at, count_order, Nat.one_mul]
    rfl
  unfold tallyAt; refine congrArg _ (Finsupp.ext fun u => ?_); cases u
  rw [Pipeline.launchCredit_owing, Finsupp.single_eq_same, Finset.sum_congr rfl fun d _ => h d, Finset.sum_ite_eq' Finset.univ (peer c e) fun _ => N,
    if_pos (Finset.mem_univ _)]

theorem launch_bar (c : Dev nD) :
    tallyOn (barCell c) (launchCredit (Pipeline.owing O₀) 0 (barCell c)) = (tallyAt (barCell c) () 3 : CellTallies nD τ sig Unit) := by
  have h (d : Dev nD) : O₀ d (barCell c) () = (if d = peer c 2 then 1 else 0) + (if d = peer c 1 then 1 else 0) + (if d = peer c 0 then 1 else 0) := by
    unfold O₀
    rw [Pi.add_apply, Finsupp.add_apply, Pi.add_apply, Finsupp.add_apply, Pi.add_apply, Finsupp.add_apply, tally_bar, tally_bar, tally_bar,
      owed_bar, Nat.zero_add]
  unfold tallyAt; refine congrArg _ (Finsupp.ext fun u => ?_); cases u
  rw [Pipeline.launchCredit_owing, Finsupp.single_eq_same, Finset.sum_congr rfl fun d _ => h d, Finset.sum_add_distrib, Finset.sum_add_distrib,
    Finset.sum_ite_eq' Finset.univ (peer c 2) fun _ => 1, Finset.sum_ite_eq' Finset.univ (peer c 1) fun _ => 1,
    Finset.sum_ite_eq' Finset.univ (peer c 0) fun _ => 1, if_pos (Finset.mem_univ _), if_pos (Finset.mem_univ _), if_pos (Finset.mem_univ _)]

/-! ## The credit dealt -/

theorem creds (c : Dev nD) :
    (Pipeline.launchCred O₀ c : sProp 𝕄) ⊢ iprop(cred (tallyAt (barCell c) () 3)
      ∗ bigSep Finset.univ fun p : Blk => iprop(cred (tallyAt (rCell c p 0) () N) ∗ cred (tallyAt (rCell c p 1) () N) ∗ cred (tallyAt (rCell c p 2) () N))) := by
  have hk (k : CellIx → sProp 𝕄) (Φ : SemLoc sig → sProp 𝕄) (h : ∀ i, Φ (csem i) = k i) : bigSep Finset.univ Φ ⊢ bigSep Finset.univ k := by
    refine (bigSep_subset (Finset.subset_univ (Finset.univ.map ⟨csem, csem_injective⟩))).trans ?_
    rw [bigSep_map]
    exact Entails.of_eq (bigSep_congr fun i _ => h i)
  unfold Pipeline.launchCred
  refine (hk (fun i => cred (tallyOn (kcell (c, i)) (launchCredit (Pipeline.owing O₀) 0 (kcell (c, i))))) _ fun i => rfl).trans ?_
  rw [over_cells, over_sides]
  rw [show tallyOn (kcell (c, none)) (launchCredit (Pipeline.owing O₀) 0 (kcell (c, none))) = _ from launch_bar c]
  iintro ⟨HB, -, HR⟩
  isplitl [HB]; · iexact HB
  rw [show (fun p : Blk => (iprop(cred (tallyAt (rCell c p 0) () N) ∗ cred (tallyAt (rCell c p 1) () N) ∗ cred (tallyAt (rCell c p 2) () N)) : sProp 𝕄))
    = fun p => iprop(cred (tallyOn (rCell c p 0) (launchCredit (Pipeline.owing O₀) 0 (rCell c p 0))) ∗ cred (tallyOn (rCell c p 1) (launchCredit (Pipeline.owing O₀) 0 (rCell c p 1)))
      ∗ cred (tallyOn (rCell c p 2) (launchCredit (Pipeline.owing O₀) 0 (rCell c p 2)))) from funext fun p => by rw [launch_r, launch_r, launch_r]]
  iexact HR

end Cert.KernelIdeal.Body

end
-- ==== Proof.Launch.lean ====
/- The whole run: every device's result, its arguments unchanged, every counter back at zero. Over any float values. -/
module

public import proofs.«01_k».proof.Proof.Credit
public import Idealize.ShloMosaic.Lib.Pipeline.CollectiveSegs

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin2 bigSep_fin3 bigSep_fin4)
open Idealize.ShloMosaic.Transfers (shareTok shareDrop Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

theorem ownSemFacts : Pipeline.OwnSemFacts cfg0.spec osem := by decide

theorem share_eq (w : Fin cfg0.W) : (dats m 0 c).share w = fullShare := by unfold Dat.share; split <;> rfl

/-- What a device starts the kernel with, besides its scoped buffers. -/
def start : sProp 𝕄 := iprop((∃ K, env m K ∗ dealt c) ∗ wholes m c ∗ wsems c)

theorem coming_intro : iprop((bigSep Finset.univ fun p : Blk => iprop(cred (tallyAt (rCell c p 0) () N) ∗ cred (tallyAt (rCell c p 1) () N) ∗ cred (tallyAt (rCell c p 2) () N)))
      ∗ bigSep Finset.univ fun p : Blk => iprop(atPos ER (kcell (c, some (true, p, 0))) 0 ∅ 0 ∗ atPos ER (kcell (c, some (true, p, 1))) 0 ∅ 0 ∗ atPos ER (kcell (c, some (true, p, 2))) 0 ∅ 0))
    ⊢ (bigSep Finset.univ (coming c) : sProp 𝕄) := by
  rw [← bigSep_sep']
  refine bigSep_mono fun p _ => ?_
  show (_ : sProp 𝕄) ⊢ _
  unfold coming awaited
  iintro ⟨⟨C0, C1, C2⟩, A0, A1, A2⟩
  isplitl [C0 A0]
  · isplitl [C0]; · iexact C0
    iexact A0
  isplitl [C1 A1]
  · isplitl [C1]; · iexact C1
    iexact A1
  isplitl [C2]; · iexact C2
  iexact A2

theorem dealt_intro : iprop(linear c ∗ Pipeline.launchCred O₀ c) ⊢ (dealt c : sProp 𝕄) := by
  unfold linear paid dealt
  rw [over_cells, over_sides]
  iintro ⟨⟨⟨HaB, HaS, HaR⟩, Hb, Hd⟩, Hc⟩
  ihave Hc := (creds (F := F) c) $$ Hc
  icases Hc with ⟨HcB, HcR⟩
  ihave Hcom := (coming_intro (F := F) c) $$ [HcR HaR]
  · isplitl [HcR] <;> iassumption
  isplitl [Hb]; · iexact Hb
  isplitl [Hd]; · iexact Hd
  isplitl [HcB]; · iexact HcB
  isplitl [HaB]; · iexact HaB
  isplitl [Hcom]; · iexact Hcom
  iexact HaS

theorem wholes_intro : (Pipeline.unscopedRestP Pipeline.Prefetch.none cfg0.spec c (fun b => m ((c : Thread nD τ).loc b)) : sProp 𝕄) ⊢ wholes m c := by
  rw [Pipeline.unscopedRestP_none, show (Pipeline.unscopedRest cfg0.spec c (fun b => m ((c : Thread nD τ).loc b)) : sProp 𝕄) = _ from unscopedRest0_eq c _]
  unfold wholes whole1 whole2
  iintro ⟨H1, H2, H3, H4, H5, H6⟩
  isplitl [H1 H2 H3]
  · isplitl [H1]; · iexact H1
    isplitl [H2]; · iexact H2
    iexact H3
  isplitl [H4]; · iexact H4
  isplitl [H5]; · iexact H5
  iexact H6

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start
  iintro ⟨Hu, #Hlev, Hcr, -, ⟨%K, #HR, Hlin⟩, Hw⟩
  ihave Hu := (wholes_intro m c) $$ Hu
  ihave Hd := (dealt_intro (F := F) c) $$ [Hlin Hcr]
  · isplitl [Hlin] <;> iassumption
  imodintro
  isplitl
  · isplitl [Hd]
    · iexists K
      isplitr
      · unfold records env
        icases HR with ⟨#H1, #H2⟩
        isplitr; · iexact H1
        isplitr; · iexact H2
        iexact Hlev
      iexact Hd
    isplitl [Hu] <;> iassumption
  · iempintro

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ start
  iintro ⟨⟨Hd, Hw, Hs⟩, -, Hr⟩
  isplitl [Hd]; · iexact Hd
  isplitl [Hw]; · iexact Hw
  iapply (room_intro (F := F) c)
  isplitl [Hs] <;> iassumption

theorem zeros_intro : iprop(bigSep Finset.univ (sZero c) ∗ bigSep Finset.univ (rZero c))
    ⊢ (bigSep Finset.univ fun x : Bool × Blk × Fin 3 => semVal (kcell (c, some x)) 0 : sProp 𝕄) := by
  rw [over_sides]
  iintro ⟨H1, H2⟩
  isplitl [H1]; · iexact H1
  iexact H2

theorem phi1_exit :
    (dats m 0 c).Φ (Fin.last cfg0.N) ⊢ iprop((wholes m c ∗ unscopedSems0 c) ∗ Pipeline.ownSems0 osem c ∗ Pipeline.scopedRest cfg0.spec c) := by
  rw [show (dats m 0 c).Φ (Fin.last cfg0.N) = Φ₁ m c from rfl, ownSems0_eq, unscopedSems0_eq]
  unfold Φ₁
  iintro ⟨Hw, Hr, Hz⟩
  ihave Hr := (room_exit m c) $$ Hr
  icases Hr with ⟨⟨Hs, Hrest⟩, Hx⟩
  ihave Hx := (zeros_intro (F := F) c) $$ Hx
  isplitl [Hw Hz]
  · isplitl [Hw] <;> iassumption
  isplitr [Hrest]
  · isplitl [Hs] <;> iassumption
  iexact Hrest

theorem waits : (levAts L lv : sProp 𝕄) ⊢ Pipeline.cellsWaits cfgs (dats m) () 0 c :=
  Pipeline.cellsWaits_intro cfgs (dats m) () 0 c fun w s t =>
    mayWait c _ 0 (by fin_cases w <;> fin_cases s <;> decide) (by
      rcases t with ⟨_ | _, ht⟩
      · exact above_O₀ c
      · exact above_zero 0)

/-! ## Reading the weight arrays at the end -/

theorem read_array (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hi, HSI⟩
  icombine HSI Hi gives %h
  isplitr
  · ipureintro; exact Buf.eq_of_forall_mem_univ h
  iexact HSI

/-- The weight arrays hold what they held. -/
def Kept (s : MemSt nD τ sig (Elt F)) : Prop :=
  (∀ l : Fin 3, s.mem ((winM l).view.loc (c : Thread nD τ)) = win m c l) ∧ ∀ l : Fin 3, s.mem ((woutM l).view.loc (c : Thread nD τ)) = wout m c l

theorem read_wholes (s' : Phys nD τ sig (Elt F)) : iprop(wholes m c ∗ SI s') ⊢ (iprop(⌜Kept m c s'.mem⌝ ∗ SI s') : sProp 𝕄) := by
  unfold wholes whole1 whole2
  iintro ⟨⟨⟨A0, A1, A2⟩, B0, B1, B2⟩, HSI⟩
  ihave H := (read_array ((winM 0).view.loc (c : Thread nD τ)) (win m c 0) s') $$ [A0 HSI]
  · isplitl [A0] <;> iassumption
  icases H with ⟨%a0, HSI⟩
  ihave H := (read_array ((winM 1).view.loc (c : Thread nD τ)) (win m c 1) s') $$ [A1 HSI]
  · isplitl [A1] <;> iassumption
  icases H with ⟨%a1, HSI⟩
  ihave H := (read_array ((winM 2).view.loc (c : Thread nD τ)) (win m c 2) s') $$ [A2 HSI]
  · isplitl [A2] <;> iassumption
  icases H with ⟨%a2, HSI⟩
  ihave H := (read_array ((woutM 0).view.loc (c : Thread nD τ)) (wout m c 0) s') $$ [B0 HSI]
  · isplitl [B0] <;> iassumption
  icases H with ⟨%b0, HSI⟩
  ihave H := (read_array ((woutM 1).view.loc (c : Thread nD τ)) (wout m c 1) s') $$ [B1 HSI]
  · isplitl [B1] <;> iassumption
  icases H with ⟨%b1, HSI⟩
  ihave H := (read_array ((woutM 2).view.loc (c : Thread nD τ)) (wout m c 2) s') $$ [B2 HSI]
  · isplitl [B2] <;> iassumption
  icases H with ⟨%b2, HSI⟩
  isplitr
  · ipureintro
    refine ⟨fun l => ?_, fun l => ?_⟩
    · match l with
      | 0 => exact a0
      | 1 => exact a1
      | 2 => exact a2
    · match l with
      | 0 => exact b0
      | 1 => exact b1
      | 2 => exact b2
  iexact HSI

def AtEnd (s : MemSt nD τ sig (Elt F)) : Prop :=
  Kept m c s ∧ ∀ sm : SemLoc sig, sm.isScoped .tc = false → s.sem ((c.tc : Thread nD τ), sm) = 0

theorem read_end (s' : Phys nD τ sig (Elt F)) :
    iprop((wholes m c ∗ unscopedSems0 c) ∗ emp ∗ SI s') ⊢ (|={Set.univ}=> iprop(⌜AtEnd m c s'.mem⌝ ∗ SI s') : sProp 𝕄) := by
  iintro ⟨⟨Hw, Hu⟩, -, HSI⟩
  ihave H := (read_wholes m c s') $$ [Hw HSI]
  · isplitl [Hw] <;> iassumption
  icases H with ⟨%hk, HSI⟩
  imod (Pipeline.unscopedSems0_read (X := unscopedSems0 c) (c := c) fupd_intro s') $$ [Hu HSI] with ⟨%hz, HSI⟩
  · isplitl [Hu] <;> iassumption
  imodintro
  isplitr
  · ipureintro; exact ⟨hk, hz⟩
  iexact HSI

/-! ## The run -/

/-- A window's array at the end. -/
def finalA (w : Fin cfg0.W) : Buf (Elt F) ((cfg0.win w).arr.view.loc (c : Thread nD τ)) := (dats m 0 c).arrAt w cfg0.N

def Ends (r : PUnit × MemSt nD τ sig (Elt F)) : Prop :=
  ((∀ c : Dev nD, ∀ w : Fin cfg0.W, r.2.mem ((cfg0.win w).arr.view.loc (c : Thread nD τ)) = finalA m c w) ∧ ∀ c : Dev nD, Kept m c r.2)
    ∧ r.2.sem = fun _ => 0

theorem own_cells (x : UB) : (BI.own ((((Emb.inl : Emb UB (UB × Counters)).trans (embR : Emb (UB × Counters) 𝕄)) : Emb UB 𝕄) x) : sProp 𝕄) ⊢ BI.own (ER x) :=
  Entails.of_eq rfl

theorem unfund : (ownU u₀ : sProp 𝕄) ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX := (own_pair_emb (embR : Emb (UB × Counters) 𝕄) _ _) $$ HX
  icases HX with ⟨HX, -⟩
  ihave HX := (own_cells (F := F) _) $$ HX
  imod (fund m) $$ HX with HG
  imodintro
  isplitl [HP] <;> iassumption

set_option maxRecDepth 100000 in
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀) (hu₀ := unfund m) (hglob := glob m)
    (hA := fun _ _ => rfl) (hpf := fun _ k => k.elim0)
    (X := start m) (Y := fun c => iprop(wholes m c ∗ unscopedSems0 c)) (Z := fun _ => iprop(emp))
    (hX := start_intro m ρ) (hin := phi0_intro m) (hout := phi1_exit m)
    (QY := AtEnd m) (hY := read_end m)
    (hQ := fun _ h hs => ⟨⟨fun c w => (h c).1 w, fun c => (h c).2.2.1⟩, sem_eq_zero hs fun c => (h c).2.2.2⟩)

end Cert.KernelIdeal.Body

end
-- ==== Proof.Frames.lean ====
/- The frames: every run of the two programs and of the reference ends, with the arguments unchanged and every semaphore
   at zero. Read off `run_main`, which holds over any float values. -/
module

public import proofs.«01_k».proof.Proof.Launch
public import proofs.«01_k».proof.Defs
public import proofs.«01_k».proof.Proof.Gen.ReferenceIdeal
public import proofs.«01_k».proof.Proof.Gen.ReferenceIdeal.Run
public import proofs.«01_k».proof.Proof.Gen.Kernel
public import proofs.«01_k».proof.Proof.Gen.KernelIdeal
public import Idealize.ShloMosaic.Lib.Quiescent

@[expose] public section

noncomputable section

namespace Cert.KernelIdeal.Body

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The input array ends as it was. -/
theorem finalA_x (c : Dev nD) : finalA m c (0 : Fin 2) = m ((c : Thread nD τ).loc main_arg0) :=
  (dats (F := F) m 0 c).arrAt_in (0 : Fin 2) rfl _

/-- What the frames say of a device's arguments. -/
def Unchanged (s : MemSt nD τ sig (Elt F)) (c : Dev nD) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)

theorem Ends.unchanged {r : PUnit × MemSt nD τ sig (Elt F)} (h : Ends m r) (c : Dev nD) : Unchanged m r.2 c :=
  ⟨(h.1.1 c (0 : Fin 2)).trans (finalA_x m c), (h.1.2 c).1 0, (h.1.2 c).1 1, (h.1.2 c).1 2, (h.1.2 c).2 0, (h.1.2 c).2 1, (h.1.2 c).2 2⟩

theorem frame_ideal : Cert.quiescent_KernelIdeal := fun m ρ _ =>
  (θ_run Cert.KernelIdeal.defs _ _).mono (fun _ h => ⟨fun c => h.unchanged m c, h.2⟩) (run_main (F := Ideal) m ρ)

/-- The two programs' kernel bodies are one text; -/
theorem same_body : Cert.Kernel.cc0_body (F := Bits) = Cert.KernelIdeal.cc0_body (F := Bits) := rfl
theorem same_tc : ∀ (ℓ : Fin 1) (a : Λ₀.Args ℓ), Cert.Kernel.defs₀ (F := Bits) .tc ℓ a = Cert.KernelIdeal.defs₀ (F := Bits) .tc ℓ a
  | ⟨0, _⟩, (_, _) => rfl
/-- so are their tables of bodies. -/
theorem same_defs₀ : Cert.Kernel.defs₀ (F := Bits) = Cert.KernelIdeal.defs₀ (F := Bits) :=
  funext fun p => funext fun ℓ => funext fun a => match p with
    | .tc => same_tc ℓ a
    | .scScalar _ => rfl
    | .scVector _ _ => rfl
theorem same_defs : Cert.Kernel.defs (F := Bits) = Cert.KernelIdeal.defs (F := Bits) :=
  congrArg (Pipeline.defs (pcfgs (F := Bits))) same_defs₀

theorem frame_kernel : Cert.quiescent_Kernel := by
  intro m ρ _
  have h : θ_run (Cert.KernelIdeal.defs (F := Bits)) _ _ fun r => (∀ c : Dev nD, Unchanged m r.2 c) ∧ r.2.sem = fun _ => 0 :=
    (θ_run Cert.KernelIdeal.defs _ _).mono (fun _ h => ⟨fun c => h.unchanged m c, h.2⟩) (run_main (F := Bits) m ρ)
  rw [← same_defs] at h
  exact h

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run m ρ)

end Cert.KernelIdeal.Body

end
-- ==== Proof.Value.lean ====
/- What the run computes over the extended reals: each layer's blocks, on every device, are the blocks of the plain
   chain of matrix products. The hidden rows are cut in four over the devices and each contraction over the input
   in four again, so the only arithmetic is that a sum over the whole is the sum of the sums over the parts. -/
module

public import proofs.«01_k».proof.Proof.Frames
public import Idealize.ShloMosaic.Lib.ValueIdx
public import Idealize.ShloMosaic.Lib.ValueIdxCore
public import Idealize.ShloMosaic.Lib.MatmulPlain
public import Idealize.ShloMosaic.Lib.StackMember
public import Idealize.ShloMosaic.Lib.IdealHost
public import Idealize.ShloMosaic.Lib.Layout

@[expose] public section

noncomputable section

open scoped BigOperators

namespace Cert.KernelIdeal.Body

open Cert.KernelIdeal Cert.KernelIdeal.Gen
open Idealize.ShloMosaic Idealize.ShloMosaic.TcCoe Idealize.SL.Sem
open Idealize.ShloMosaic.ValueIdx

/-! ## Places -/

/-- Place `k` of chunk `j` of the 2048 inputs; -/
def inAt (j : Fin 4) (k : Fin 512) : Fin 2048 := ⟨512 * j.val + k.val, by omega⟩
/-- place `n` of device `c`'s part of the 16384 hidden values. -/
def hidAt (c : Fin 4) (n : Fin 4096) : Fin 16384 := ⟨4096 * c.val + n.val, by omega⟩

/-- A sum over `a` runs of `b` places. -/
theorem sum_runs {a b n : ℕ} (h : a * b = n) (at' : Fin a → Fin b → Fin n) (hat : ∀ i j, (at' i j).val = b * i.val + j.val) (f : Fin n → EReal) :
    ∑ x, f x = ∑ i, ∑ j, f (at' i j) := by
  subst h
  rw [← (finProdFinEquiv (m := a) (n := b)).sum_comp f, Fintype.sum_prod_type]
  refine Finset.sum_congr rfl fun i _ => Finset.sum_congr rfl fun j _ => congrArg f (Fin.ext ?_)
  rw [hat]
  exact Nat.add_comm _ _

theorem sum_in (f : Fin 2048 → EReal) : ∑ x, f x = ∑ j, ∑ k, f (inAt j k) := sum_runs (by decide) _ (fun _ _ => rfl) f
theorem sum_hid (f : Fin 16384 → EReal) : ∑ x, f x = ∑ c, ∑ n, f (hidAt c n) := sum_runs (by decide) _ (fun _ _ => rfl) f

/-! ## The plain mathematics of a layer -/

abbrev Whole := FVec Ideal S64x2048 .f32
abbrev WholeIn := FVec Ideal (⟨2, ![2048, 16384]⟩ : Shape) .f32
abbrev WholeOut := FVec Ideal (⟨2, ![16384, 2048]⟩ : Shape) .f32

/-- A hidden value; -/
def hidVal (Z : Whole) (A : WholeIn) (r : Fin 64) (n : Fin 16384) : EReal := max (∑ x : Fin 2048, Z (ix2 r x) * A (ix2 x n)) 0
/-- an output value; -/
def outVal (Z : Whole) (A : WholeIn) (B : WholeOut) (r : Fin 64) (x : Fin 2048) : EReal := ∑ n : Fin 16384, hidVal Z A r n * B (ix2 n x)
/-- the layer. -/
def layerVal (Z : Whole) (A : WholeIn) (B : WholeOut) : Whole := fun i => outVal Z A B (i 0) (i 1)

/-! ## The kernel's operations at an index -/

theorem mmc_apply (v : FVec Ideal S64x512 .f32) (w : FVec Ideal S512x4096 .f32) (r : Fin 64) (n : Fin 4096) :
    mmc v w (ix2 r n) = ∑ k : Fin 512, v (ix2 r k) * w (ix2 k n) := by
  have h := Ideal.matmul_plain_apply (M := 64) (K := 512) (N := 4096) none v w (constant S64x4096 .f32 0x00000000#32) r n
  rw [ValueIdx.constant_apply, Ideal.ofBits_zero_f32, zero_add] at h
  exact h

theorem outc_apply (h : FVec Ideal S64x4096 .f32) (w : FVec Ideal S4096x512 .f32) (r : Fin 64) (k : Fin 512) :
    outc h w (ix2 r k) = ∑ n : Fin 4096, h (ix2 r n) * w (ix2 n k) := by
  have e := Ideal.matmul_plain_apply (M := 64) (K := 4096) (N := 512) none h w (constant S64x512 .f32 0x00000000#32) r k
  rw [ValueIdx.constant_apply, Ideal.ofBits_zero_f32, zero_add] at e
  exact e

theorem relu_apply (h : FVec Ideal S64x4096 .f32) (i : S64x4096.Idx) : relu h i = max (h i) 0 := by
  unfold relu
  rw [shapeCast_self, ValueIdx.maximumf_apply]
  exact congrArg (max (h i)) Ideal.ofBits_zero_f32

theorem hid0_eq (v : FVec Ideal S64x512 .f32) (w : FVec Ideal S512x4096 .f32) : hid0 v w = mmc v w := shapeCast_self _ _
theorem hid1_apply (v : FVec Ideal S64x512 .f32) (w : FVec Ideal S512x4096 .f32) (h : FVec Ideal S64x4096 .f32) (i : S64x4096.Idx) :
    hid1 v w h i = h i + mmc v w i := by
  unfold hid1
  rw [shapeCast_self]
  rfl

/-- The hidden rows at a place: the four chunks' sums, rectified. -/
theorem hidden_apply (v : Fin 4 → FVec Ideal S64x512 .f32) (w : Fin 4 → FVec Ideal S512x4096 .f32) (r : Fin 64) (n : Fin 4096) :
    hidden v w (ix2 r n) = max (∑ j, ∑ k : Fin 512, v j (ix2 r k) * w j (ix2 k n)) 0 := by
  unfold hidden
  rw [relu_apply, hid1_apply, hid1_apply, hid1_apply, hid0_eq, mmc_apply, mmc_apply, mmc_apply, mmc_apply, Fin.sum_univ_four]

theorem peers_of : ∀ c : Dev nD, (c = 0 ∧ peer c 0 = 1 ∧ peer c 1 = 3 ∧ peer c 2 = 2) ∨ (c = 1 ∧ peer c 0 = 0 ∧ peer c 1 = 2 ∧ peer c 2 = 3)
    ∨ (c = 2 ∧ peer c 0 = 3 ∧ peer c 1 = 1 ∧ peer c 2 = 0) ∨ (c = 3 ∧ peer c 0 = 2 ∧ peer c 1 = 0 ∧ peer c 2 = 1) := by
  decide

/-- Adding a device's block to its three peers' is adding all four. -/
theorem sum_peers (f : Dev nD → EReal) (c : Dev nD) : f c + f (peer c 0) + f (peer c 1) + f (peer c 2) = ∑ d : Fin 4, f d := by
  rw [Fin.sum_univ_four]
  rcases peers_of c with ⟨h, h0, h1, h2⟩ | ⟨h, h0, h1, h2⟩ | ⟨h, h0, h1, h2⟩ | ⟨h, h0, h1, h2⟩ <;>
    (rw [h0, h1, h2, h]; ac_rfl)

theorem total_apply (P : Rows Ideal) (c : Dev nD) (j : Fin 4) (i : S64x512.Idx) : total P c j i = ∑ d : Fin 4, P d j i :=
  sum_peers (fun d => P d j i) c

/-! ## A layer -/

section
variable (m : (ℓ : Loc nD τ sig) → Buf (Elt Ideal) ℓ)

/-- Every device holds the blocks of `Z`. -/
def Holds (X : Rows Ideal) (Z : Whole) : Prop := ∀ (c : Dev nD) (j : Fin 4) (r : Fin 64) (k : Fin 512), X c j (ix2 r k) = Z (ix2 r (inAt j k))
/-- The devices hold layer `l`'s weights, a quarter each. -/
def Weights (l : Fin 3) (A : WholeIn) (B : WholeOut) : Prop :=
  (∀ (c : Dev nD) (j : Fin 4) (k : Fin 512) (n : Fin 4096), W1 m c l j (ix2 k n) = A (ix2 (inAt j k) (hidAt c n)))
  ∧ ∀ (c : Dev nD) (j : Fin 4) (n : Fin 4096) (k : Fin 512), W2 m c l j (ix2 n k) = B (ix2 (hidAt c n) (inAt j k))

theorem hidden_val {l : Fin 3} {A : WholeIn} {B : WholeOut} (hW : Weights m l A B) {X : Rows Ideal} {Z : Whole} (hX : Holds X Z)
    (c : Dev nD) (r : Fin 64) (n : Fin 4096) : hidden (X c) (W1 m c l) (ix2 r n) = hidVal Z A r (hidAt c n) := by
  rw [hidden_apply, hidVal, sum_in]
  refine congrArg (max · (0 : EReal)) (Finset.sum_congr rfl fun j _ => Finset.sum_congr rfl fun k _ => ?_)
  rw [hX, hW.1]

/-- One layer of the kernel is one layer of the mathematics. -/
theorem layer_val {l : Fin 3} {A : WholeIn} {B : WholeOut} (hW : Weights m l A B) {X : Rows Ideal} {Z : Whole} (hX : Holds X Z) :
    Holds (total (partialOf m l X)) (layerVal Z A B) := by
  intro c j r k
  show _ = ∑ n : Fin 16384, hidVal Z A r n * B (ix2 n (inAt j k))
  rw [total_apply, sum_hid]
  refine Finset.sum_congr rfl fun d _ => ?_
  show outc (hidden (X d) (W1 m d l)) (W2 m d l j) (ix2 r k) = _
  rw [outc_apply]
  refine Finset.sum_congr rfl fun n _ => ?_
  rw [hidden_val m hW hX, hW.2]

/-! ## The slices -/

/-- Where a chunk of rows of the first weight sits, -/
theorem w1R_emb (j : Fin 4) (k : Fin 512) (n : Fin 4096) : (w1R j).emb (ix2 k n) = (ix2 (inAt j k) n : S2048x4096.Idx) := by
  funext a; apply Fin.ext
  match a with
  | ⟨0, _⟩ => show 512 * j.val + 1 * k.val = 512 * j.val + k.val; omega
  | ⟨1, _⟩ => show 0 + 1 * n.val = n.val; omega
/-- a chunk of columns of the second, -/
theorem w2R_emb (j : Fin 4) (n : Fin 4096) (k : Fin 512) : (w2R j).emb (ix2 n k) = (ix2 n (inAt j k) : S4096x2048.Idx) := by
  funext a; apply Fin.ext
  match a with
  | ⟨0, _⟩ => show 0 + 1 * n.val = n.val; omega
  | ⟨1, _⟩ => show 512 * j.val + 1 * k.val = 512 * j.val + k.val; omega
/-- a chunk of columns of the input. -/
theorem xR_emb (j : Fin 4) (r : Fin 64) (k : Fin 512) : (xR j).emb (ix2 r k) = (ix2 r (inAt j k) : S64x2048.Idx) := by
  funext a; apply Fin.ext
  match a with
  | ⟨0, _⟩ => show 0 + 1 * r.val = r.val; omega
  | ⟨1, _⟩ => show 512 * j.val + 1 * k.val = 512 * j.val + k.val; omega

theorem W1_apply (c : Dev nD) (l : Fin 3) (j : Fin 4) (k : Fin 512) (n : Fin 4096) :
    W1 m c l j (ix2 k n) = (winM l).view.read (Elt Ideal) (win m c l) (ix2 (inAt j k) n) := by
  rw [← w1R_emb]; rfl
theorem W2_apply (c : Dev nD) (l : Fin 3) (j : Fin 4) (n : Fin 4096) (k : Fin 512) :
    W2 m c l j (ix2 n k) = (woutM l).view.read (Elt Ideal) (wout m c l) (ix2 n (inAt j k)) := by
  rw [← w2R_emb]; rfl

/-- The parts of the whole weights. -/
theorem part_in (c : Fin 4) (A : WholeIn) (x : Fin 2048) (n : Fin 4096) :
    Layout.block ⟨2, ![2048, 4096]⟩ ⟨2, ![2048, 16384]⟩ 1 4 c A (by decide) (ix2 x n) = A (ix2 x (hidAt c n)) := by
  rw [Layout.block_apply]
  refine congrArg A (funext fun a => Fin.ext ?_)
  match a with
  | ⟨0, _⟩ => exact (Layout.idx_cols_val _ c _).1
  | ⟨1, _⟩ => exact ((Layout.idx_cols_val _ c _).2).trans (by show c.val * 4096 + n.val = 4096 * c.val + n.val; omega)
theorem part_out (c : Fin 4) (B : WholeOut) (n : Fin 4096) (x : Fin 2048) :
    Layout.block ⟨2, ![4096, 2048]⟩ ⟨2, ![16384, 2048]⟩ 0 4 c B (by decide) (ix2 n x) = B (ix2 (hidAt c n) x) := by
  rw [Layout.block_apply]
  refine congrArg B (funext fun a => Fin.ext ?_)
  match a with
  | ⟨0, _⟩ => exact ((Layout.idx_rows_val _ c _).1).trans (by show c.val * 4096 + n.val = 4096 * c.val + n.val; omega)
  | ⟨1, _⟩ => exact (Layout.idx_rows_val _ c _).2

/-- The staged input is the whole of it. -/
theorem xstg_eq (c : Dev nD) : xstg m c = m ((c : Thread nD τ).loc main_arg0) :=
  Memref.read_access_unit_zero (Elt Ideal) main_arg0 (off := fun a => (win0_0.index (0 : Fin 1)) a * main_arg0.ty.shape.size a)
    (funext fun a => by fin_cases a <;> decide) (fun a => by fin_cases a <;> decide) _
theorem X0_apply (c : Dev nD) (j : Fin 4) (r : Fin 64) (k : Fin 512) :
    X0 m c j (ix2 r k) = (m ((c : Thread nD τ).loc main_arg0) : Whole) (ix2 r (inAt j k)) := by
  have h : X0 m c j (ix2 r k) = xM.view.readAt (Elt Ideal) (xR j).toLoadRect (xstg m c) (ix2 r k) :=
    congrFun (shapeCast_self (s := S64x512) _ shapeCasts_S64x512_S64x512) (ix2 r k)
  rw [h, ← xstg_eq m c, ← xR_emb]
  rfl

/-! ## The result array -/

/-- The result array ends as what the body left staged. -/
theorem finalA_o (c : Dev nD) : finalA m c (1 : Fin 2) = outAt m c := by
  have h : (win0_1.blk (0 : Fin 1)).view.read (Elt Ideal) (finalA m c (1 : Fin 2)) = outAt m c := by
    unfold finalA
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    exact View.read_write_univ _ _
  rw [← h]
  exact (Memref.read_access_unit_zero (Elt Ideal) main_v1 (off := fun a => (win0_1.index (0 : Fin 1)) a * main_v1.ty.shape.size a)
    (funext fun a => by fin_cases a <;> decide) (fun a => by fin_cases a <;> decide) _).symm

theorem outI_ix2 (i : S64x2048.Idx) : outI i = (ix2 (i 0) ⟨(i 1).val % 512, Nat.mod_lt _ (by decide)⟩ : S64x512.Idx) := by
  funext a; match a with
  | ⟨0, _⟩ => rfl
  | ⟨1, _⟩ => rfl

theorem outAt_val {Z : Whole} (h : Holds (RV m 2) Z) (c : Dev nD) : outAt m c = Z := by
  funext i
  rw [outAt_eq, outI_ix2]
  refine (h c (outJ i) (i 0) _).trans (congrArg Z ?_)
  rw [eq_ix2 i]
  exact congrArg (ix2 (i 0)) (Fin.ext (Nat.div_add_mod (i 1).val 512))

/-- The three layers. -/
theorem result_val {Z : Whole} {A0 A1 A2 : WholeIn} {B0 B1 B2 : WholeOut} (hx : Holds (X0 m) Z)
    (h0 : Weights m 0 A0 B0) (h1 : Weights m 1 A1 B1) (h2 : Weights m 2 A2 B2) (c : Dev nD) :
    finalA m c (1 : Fin 2) = layerVal (layerVal (layerVal Z A0 B0) A1 B1) A2 B2 :=
  (finalA_o m c).trans (outAt_val m (layer_val m h2 (layer_val m h1 (layer_val m h0 hx))) c)

end

/-! ## The reference -/

/-- A layer of the reference. -/
def refLayer (Z : Whole) (A : WholeIn) (B : WholeOut) : Whole :=
  Host.dotGeneral Cert.ReferenceIdeal.dot_S64x16384_S16384x2048_S64x2048_1_0_0_1_n_n none
    (maximumf (Host.dotGeneral Cert.ReferenceIdeal.dot_S64x2048_S2048x16384_S64x16384_1_0_0_1_n_n none Z A)
      (broadcastInDim Cert.ReferenceIdeal.S64x16384 ![] Cert.ReferenceIdeal.Gen.facts.bcast_S_S64x16384 (constant Cert.ReferenceIdeal.S_ .f32 0x00000000#32))) B

theorem ref_hid_apply (Z : Whole) (A : WholeIn) (r : Fin 64) (n : Fin 16384) :
    Host.dotGeneral Cert.ReferenceIdeal.dot_S64x2048_S2048x16384_S64x16384_1_0_0_1_n_n none Z A (ix2 r n) = ∑ x : Fin 2048, Z (ix2 r x) * A (ix2 x n) :=
  StackMember.dotGeneral_plain_apply (m := 64) (k := 2048) (n := 16384) none Z A r n
theorem ref_out_apply (H : FVec Ideal Cert.ReferenceIdeal.S64x16384 .f32) (B : WholeOut) (r : Fin 64) (x : Fin 2048) :
    Host.dotGeneral Cert.ReferenceIdeal.dot_S64x16384_S16384x2048_S64x2048_1_0_0_1_n_n none H B (ix2 r x) = ∑ n : Fin 16384, H (ix2 r n) * B (ix2 n x) :=
  StackMember.dotGeneral_plain_apply (m := 64) (k := 16384) (n := 2048) none H B r x

theorem refLayer_apply (Z : Whole) (A : WholeIn) (B : WholeOut) (r : Fin 64) (x : Fin 2048) : refLayer Z A B (ix2 r x) = outVal Z A B r x := by
  unfold refLayer outVal
  rw [ref_out_apply]
  refine Finset.sum_congr rfl fun n _ => ?_
  rw [ValueIdx.maximumf_apply, ref_hid_apply, broadcastInDim_scalar_apply, ValueIdx.constant_apply, Ideal.ofBits_zero_f32]
  unfold hidVal
  rfl

theorem refLayer_eq (Z : Whole) (A : WholeIn) (B : WholeOut) : refLayer Z A B = layerVal Z A B := by
  funext i
  exact (congrArg (refLayer Z A B) (eq_ix2 i)).trans (refLayer_apply Z A B (i 0) (i 1))

/-! ## The claim -/

theorem weights_of (m : (ℓ : Loc nD τ sig) → Buf (Elt Ideal) ℓ) (l : Fin 3) (A : WholeIn) (B : WholeOut)
    (hA : ∀ c : Dev nD, ((winM l).view.read (Elt Ideal) (win m c l) : FVec Ideal S2048x4096 .f32) = Layout.block ⟨2, ![2048, 4096]⟩ ⟨2, ![2048, 16384]⟩ 1 4 c A)
    (hB : ∀ c : Dev nD, ((woutM l).view.read (Elt Ideal) (wout m c l) : FVec Ideal S4096x2048 .f32) = Layout.block ⟨2, ![4096, 2048]⟩ ⟨2, ![16384, 2048]⟩ 0 4 c B) :
    Weights m l A B :=
  ⟨fun c j k n => (W1_apply m c l j k n).trans ((congrFun (hA c) _).trans (part_in c A _ n)),
    fun c j n k => (W2_apply m c l j n k).trans ((congrFun (hB c) _).trans (part_out c B n _))⟩

theorem algebraic : Cert.algebraic_KernelIdeal_ReferenceIdeal := by
  intro m ρ m' ρ' _ hag
  refine ⟨_, ?_, (θ_run Cert.ReferenceIdeal.defs _ _).mono (fun r h => h 0) (Cert.ReferenceIdeal.Value.run m' ρ')⟩
  refine (θ_run Cert.KernelIdeal.defs _ _).mono (fun r h c => ⟨((h.1.1 c (1 : Fin 2)).trans ?_), h.unchanged m c⟩) (run_main (F := Ideal) m ρ)
  refine (result_val m (fun c j r k => (X0_apply m c j r k).trans (congrFun (hag c).1 _))
    (weights_of m 0 _ _ (fun c => (hag c).2.1) fun c => (hag c).2.2.2.2.1)
    (weights_of m 1 _ _ (fun c => (hag c).2.2.1) fun c => (hag c).2.2.2.2.2.1)
    (weights_of m 2 _ _ (fun c => (hag c).2.2.2.1) fun c => (hag c).2.2.2.2.2.2) c).trans ?_
  rw [← refLayer_eq, ← refLayer_eq, ← refLayer_eq]
  rfl

end Cert.KernelIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.Body.frame_kernel, Cert.KernelIdeal.Body.frame_ideal, Cert.KernelIdeal.Body.frame_reference, trivial,
  Cert.KernelIdeal.Body.algebraic⟩

end Cert.Proof

end
